-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x2048 : Shape := ⟨2, ![4096, 2048]⟩
abbrev S4096x64 : Shape := ⟨2, ![4096, 64]⟩
abbrev S4096x512 : Shape := ⟨2, ![4096, 512]⟩
abbrev S32x64x128 : Shape := ⟨3, ![32, 64, 128]⟩
abbrev S32 : Shape := ⟨1, ![32]⟩
abbrev S_ : Shape := ⟨0, ![]⟩
abbrev S128x512 : Shape := ⟨2, ![128, 512]⟩
abbrev S128x64 : Shape := ⟨2, ![128, 64]⟩
abbrev S64x64 : Shape := ⟨2, ![64, 64]⟩
abbrev S64x128 : Shape := ⟨2, ![64, 128]⟩
abbrev S1x64x128 : Shape := ⟨3, ![1, 64, 128]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S128x4096, .bf16⟩
  | .hbm, ⟨1, _⟩ => ⟨S4096x2048, .bf16⟩
  | .hbm, ⟨2, _⟩ => ⟨S4096x64, .f32⟩
  | .local _ .vmem, ⟨0, _⟩ => ⟨S128x4096, .bf16⟩
  | .local _ .vmem, ⟨1, _⟩ => ⟨S4096x512, .bf16⟩
  | .local _ .vmem, ⟨2, _⟩ => ⟨S4096x512, .bf16⟩
  | .local _ .vmem, ⟨3, _⟩ => ⟨S4096x64, .f32⟩
  | .local _ .vmem, ⟨4, _⟩ => ⟨S128x4096, .bf16⟩
  | .local _ .vmem, ⟨5, _⟩ => ⟨S32x64x128, .bf16⟩
  | .local _ .vmem, ⟨6, _⟩ => ⟨S32x64x128, .bf16⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev barrier0 : Sem sig := 0

abbrev nD : Nat := 32
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

@[reducible] def k0_t1_loop : Scf.Loop 32 :=
  let c1_i32_39 : BitVec 32 := 1#32
  let c31_i32 : BitVec 32 := 31#32
  let v114 : BitVec 32 := Scalar.addi c1_i32_39 c31_i32
  let c1_i32_40 : BitVec 32 := 1#32
  ⟨c1_i32_39, v114, c1_i32_40⟩
def k0_dev1 (d0 : Dev nD) (k0_t1 : Fin k0_t1_loop.trips) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_39 : BitVec 32 := 1#32
  let c1_i32_40 : BitVec 32 := 1#32
  let arg9 : BitVec 32 := Scf.iv c1_i32_39 c1_i32_40 k0_t1
  let v120 : BitVec 32 := Scalar.addi v2 arg9
  let c32_i32_46 : BitVec 32 := 32#32
  let v121 : BitVec 32 := Scalar.remsi v120 c32_i32_46
  let c1_i32_48 : BitVec 32 := 1#32
  let v122 : BitVec 32 := Scalar.muli v121 c1_i32_48
  let v123 : BitVec 32 := Scalar.addi c0_i32_49 v122
  v123.toNat
def k0_off1 (i : grid0.Coords) (c0_i32_8 : BitVec 32) : Fin 3 → Nat :=
  let arg0 : BitVec 32 := BitVec.ofNat 32 (i 0).val
  let c8_i32 : BitVec 32 := 8#32
  let v25 : BitVec 32 := Scalar.muli arg0 c8_i32
  let v26 : BitVec 32 := Scalar.addi v25 c0_i32_8
  let v31 : Index := Scalar.indexCast v26
  let c0_9 : Index := 0#32
  let c0_10 : Index := 0#32
  ![v31.toNat, 0, 0]
def k0_cond2 (i : grid0.Coords) : BitVec 1 :=
  let arg0 : BitVec 32 := BitVec.ofNat 32 (i 0).val
  let c1_i32_33 : BitVec 32 := 1#32
  let v105 : BitVec 1 := Scalar.cmpi .eq arg0 c1_i32_33
  let v106 : BitVec 32 := Scalar.extui v105
  let c0_i32_34 : BitVec 32 := 0#32
  let v107 : BitVec 1 := Scalar.cmpi .ne v106 c0_i32_34
  v107

@[reducible] def k0_t2_loop : Scf.Loop 32 :=
  let c1_i32_39 : BitVec 32 := 1#32
  let c31_i32_40 : BitVec 32 := 31#32
  let v114 : BitVec 32 := Scalar.addi c1_i32_39 c31_i32_40
  let c1_i32_41 : BitVec 32 := 1#32
  ⟨c1_i32_39, v114, c1_i32_41⟩
def k0_cond3 (d0 : Dev nD) (k0_t2 : Fin k0_t2_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_39 : BitVec 32 := 1#32
  let c1_i32_41 : BitVec 32 := 1#32
  let arg9 : BitVec 32 := Scf.iv c1_i32_39 c1_i32_41 k0_t2
  let v115 : BitVec 32 := Scalar.addi v2 arg9
  let c32_i32_43 : BitVec 32 := 32#32
  let v116 : BitVec 32 := Scalar.remsi v115 c32_i32_43
  let c0_i32_44 : BitVec 32 := 0#32
  let v117 : BitVec 1 := Scalar.cmpi .sge v116 c0_i32_44
  let c16_i32 : BitVec 32 := 16#32
  let v118 : BitVec 1 := Scalar.cmpi .slt v116 c16_i32
  let v119 : BitVec 1 := Scalar.andi v117 v118
  let v120 : BitVec 32 := Scalar.extui v119
  let c0_i32_45 : BitVec 32 := 0#32
  let v121 : BitVec 1 := Scalar.cmpi .ne v120 c0_i32_45
  v121

def k0_off2 (d0 : Dev nD) (k0_t2 : Fin k0_t2_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_39 : BitVec 32 := 1#32
  let c1_i32_41 : BitVec 32 := 1#32
  let arg9 : BitVec 32 := Scf.iv c1_i32_39 c1_i32_41 k0_t2
  let v115 : BitVec 32 := Scalar.addi v2 arg9
  let c32_i32_43 : BitVec 32 := 32#32
  let v116 : BitVec 32 := Scalar.remsi v115 c32_i32_43
  ![v116.toNat]
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_48 : BitVec 32 := 0#32
  let c0_i32_49 : BitVec 32 := 0#32
  ![v2.toNat, 0, 0]
def k0_off5 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_39 : BitVec 32 := 1#32
  let c1_i32_41 : BitVec 32 := 1#32
  let arg9 : BitVec 32 := Scf.iv c1_i32_39 c1_i32_41 k0_t2
  let v115 : BitVec 32 := Scalar.addi v2 arg9
  let c32_i32_43 : BitVec 32 := 32#32
  let v116 : BitVec 32 := Scalar.remsi v115 c32_i32_43
  let c0_i32_50 : BitVec 32 := 0#32
  let c0_i32_51 : BitVec 32 := 0#32
  ![v116.toNat, 0, 0]
def k0_dev2 (d0 : Dev nD) (k0_t2 : Fin k0_t2_loop.trips) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_39 : BitVec 32 := 1#32
  let c1_i32_41 : BitVec 32 := 1#32
  let arg9 : BitVec 32 := Scf.iv c1_i32_39 c1_i32_41 k0_t2
  let v115 : BitVec 32 := Scalar.addi v2 arg9
  let c32_i32_43 : BitVec 32 := 32#32
  let v116 : BitVec 32 := Scalar.remsi v115 c32_i32_43
  let c1_i32_46 : BitVec 32 := 1#32
  let v122 : BitVec 32 := Scalar.muli v116 c1_i32_46
  let v123 : BitVec 32 := Scalar.addi c0_i32_47 v122
  v123.toNat
def k0_cond4 (i : grid0.Coords) : BitVec 1 :=
  let arg0 : BitVec 32 := BitVec.ofNat 32 (i 0).val
  let c1_i32_35 : BitVec 32 := 1#32
  let v108 : BitVec 1 := Scalar.cmpi .sgt arg0 c1_i32_35
  let v109 : BitVec 32 := Scalar.extui v108
  let c0_i32_36 : BitVec 32 := 0#32
  let v110 : BitVec 1 := Scalar.cmpi .ne v109 c0_i32_36
  v110

@[reducible] def k0_t3_loop : Scf.Loop 32 :=
  let c1_i32_42 : BitVec 32 := 1#32
  let c31_i32 : BitVec 32 := 31#32
  let v117 : BitVec 32 := Scalar.addi c1_i32_42 c31_i32
  let c1_i32_43 : BitVec 32 := 1#32
  ⟨c1_i32_42, v117, c1_i32_43⟩
def k0_cond5 (i : grid0.Coords) (d0 : Dev nD) (k0_t3 : Fin k0_t3_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_42 : BitVec 32 := 1#32
  let c1_i32_43 : BitVec 32 := 1#32
  let arg9 : BitVec 32 := Scf.iv c1_i32_42 c1_i32_43 k0_t3
  let v118 : BitVec 32 := Scalar.addi v2 arg9
  let c32_i32_45 : BitVec 32 := 32#32
  let v119 : BitVec 32 := Scalar.remsi v118 c32_i32_45
  let arg0 : BitVec 32 := BitVec.ofNat 32 (i 0).val
  let c8_i32_39 : BitVec 32 := 8#32
  let v114 : BitVec 32 := Scalar.muli arg0 c8_i32_39
  let v120 : BitVec 1 := Scalar.cmpi .sge v119 v114
  let c1_i32_40 : BitVec 32 := 1#32
  let v115 : BitVec 32 := Scalar.addi arg0 c1_i32_40
  let c8_i32_41 : BitVec 32 := 8#32
  let v116 : BitVec 32 := Scalar.muli v115 c8_i32_41
  let v121 : BitVec 1 := Scalar.cmpi .slt v119 v116
  let v122 : BitVec 1 := Scalar.andi v120 v121
  let v123 : BitVec 32 := Scalar.extui v122
  let c0_i32_46 : BitVec 32 := 0#32
  let v124 : BitVec 1 := Scalar.cmpi .ne v123 c0_i32_46
  v124

def k0_off6 (d0 : Dev nD) (k0_t3 : Fin k0_t3_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_42 : BitVec 32 := 1#32
  let c1_i32_43 : BitVec 32 := 1#32
  let arg9 : BitVec 32 := Scf.iv c1_i32_42 c1_i32_43 k0_t3
  let v118 : BitVec 32 := Scalar.addi v2 arg9
  let c32_i32_45 : BitVec 32 := 32#32
  let v119 : BitVec 32 := Scalar.remsi v118 c32_i32_45
  ![v119.toNat]
def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_49 : BitVec 32 := 0#32
  let c0_i32_50 : BitVec 32 := 0#32
  ![v2.toNat, 0, 0]
def k0_off9 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_42 : BitVec 32 := 1#32
  let c1_i32_43 : BitVec 32 := 1#32
  let arg9 : BitVec 32 := Scf.iv c1_i32_42 c1_i32_43 k0_t3
  let v118 : BitVec 32 := Scalar.addi v2 arg9
  let c32_i32_45 : BitVec 32 := 32#32
  let v119 : BitVec 32 := Scalar.remsi v118 c32_i32_45
  let c0_i32_51 : BitVec 32 := 0#32
  let c0_i32_52 : BitVec 32 := 0#32
  ![v119.toNat, 0, 0]
def k0_dev3 (d0 : Dev nD) (k0_t3 : Fin k0_t3_loop.trips) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_42 : BitVec 32 := 1#32
  let c1_i32_43 : BitVec 32 := 1#32
  let arg9 : BitVec 32 := Scf.iv c1_i32_42 c1_i32_43 k0_t3
  let v118 : BitVec 32 := Scalar.addi v2 arg9
  let c32_i32_45 : BitVec 32 := 32#32
  let v119 : BitVec 32 := Scalar.remsi v118 c32_i32_45
  let c1_i32_47 : BitVec 32 := 1#32
  let v125 : BitVec 32 := Scalar.muli v119 c1_i32_47
  let v126 : BitVec 32 := Scalar.addi c0_i32_48 v125
  v126.toNat
def k0_cond6 (i : grid0.Coords) : BitVec 1 :=
  let arg0 : BitVec 32 := BitVec.ofNat 32 (i 0).val
  let c3_i32_37 : BitVec 32 := 3#32
  let v111 : BitVec 1 := Scalar.cmpi .eq arg0 c3_i32_37
  let v112 : BitVec 32 := Scalar.extui v111
  let c0_i32_38 : BitVec 32 := 0#32
  let v113 : BitVec 1 := Scalar.cmpi .ne v112 c0_i32_38
  v113

def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v114 : Index := Scalar.indexCast v2
  let c0_39 : Index := 0#32
  let c0_40 : Index := 0#32
  ![v114.toNat, 0, 0]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v119 : BitVec 32 := Scalar.muli v2 c128_i32
  let v120 : Index := Scalar.indexCast v119
  let c0_41 : Index := 0#32
  ![v120.toNat, 0]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_42 : BitVec 32 := 128#32
  let v124 : BitVec 32 := Scalar.muli v2 c128_i32_42
  let c64_i32 : BitVec 32 := 64#32
  let v125 : BitVec 32 := Scalar.addi v124 c64_i32
  let v126 : Index := Scalar.indexCast v125
  let c0_43 : Index := 0#32
  ![v126.toNat, 0]
@[reducible] def k0_t4_loop : Scf.Loop 32 :=
  let c1_i32_44 : BitVec 32 := 1#32
  let c31_i32 : BitVec 32 := 31#32
  let v128 : BitVec 32 := Scalar.addi c1_i32_44 c31_i32
  let c1_i32_45 : BitVec 32 := 1#32
  ⟨c1_i32_44, v128, c1_i32_45⟩
def k0_off13 (d0 : Dev nD) (k0_t4 : Fin k0_t4_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_44 : BitVec 32 := 1#32
  let c1_i32_45 : BitVec 32 := 1#32
  let arg9 : BitVec 32 := Scf.iv c1_i32_44 c1_i32_45 k0_t4
  let v130 : BitVec 32 := Scalar.addi v2 arg9
  let c32_i32_51 : BitVec 32 := 32#32
  let v131 : BitVec 32 := Scalar.remsi v130 c32_i32_51
  ![v131.toNat]
def k0_off14 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_44 : BitVec 32 := 1#32
  let c1_i32_45 : BitVec 32 := 1#32
  let arg9 : BitVec 32 := Scf.iv c1_i32_44 c1_i32_45 k0_t4
  let v130 : BitVec 32 := Scalar.addi v2 arg9
  let c32_i32_51 : BitVec 32 := 32#32
  let v131 : BitVec 32 := Scalar.remsi v130 c32_i32_51
  let c0_i32_54 : BitVec 32 := 0#32
  let c0_i32_55 : BitVec 32 := 0#32
  ![v131.toNat, 0, 0]
def k0_off15 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_44 : BitVec 32 := 1#32
  let c1_i32_45 : BitVec 32 := 1#32
  let arg9 : BitVec 32 := Scf.iv c1_i32_44 c1_i32_45 k0_t4
  let v130 : BitVec 32 := Scalar.addi v2 arg9
  let c32_i32_51 : BitVec 32 := 32#32
  let v131 : BitVec 32 := Scalar.remsi v130 c32_i32_51
  let v140 : Index := Scalar.indexCast v131
  let c0_58 : Index := 0#32
  let c0_59 : Index := 0#32
  ![v140.toNat, 0, 0]
def k0_off16 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_44 : BitVec 32 := 1#32
  let c1_i32_45 : BitVec 32 := 1#32
  let arg9 : BitVec 32 := Scf.iv c1_i32_44 c1_i32_45 k0_t4
  let v130 : BitVec 32 := Scalar.addi v2 arg9
  let c32_i32_51 : BitVec 32 := 32#32
  let v131 : BitVec 32 := Scalar.remsi v130 c32_i32_51
  let c128_i32_60 : BitVec 32 := 128#32
  let v145 : BitVec 32 := Scalar.muli v131 c128_i32_60
  let v146 : Index := Scalar.indexCast v145
  let c0_61 : Index := 0#32
  ![v146.toNat, 0]
def k0_off17 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_44 : BitVec 32 := 1#32
  let c1_i32_45 : BitVec 32 := 1#32
  let arg9 : BitVec 32 := Scf.iv c1_i32_44 c1_i32_45 k0_t4
  let v130 : BitVec 32 := Scalar.addi v2 arg9
  let c32_i32_51 : BitVec 32 := 32#32
  let v131 : BitVec 32 := Scalar.remsi v130 c32_i32_51
  let c128_i32_62 : BitVec 32 := 128#32
  let v150 : BitVec 32 := Scalar.muli v131 c128_i32_62
  let c64_i32_63 : BitVec 32 := 64#32
  let v151 : BitVec 32 := Scalar.addi v150 c64_i32_63
  let v152 : Index := Scalar.indexCast v151
  let c0_64 : Index := 0#32
  ![v152.toNat, 0]
@[reducible] def k0_t5_loop : Scf.Loop 32 :=
  let c1_i32_47 : BitVec 32 := 1#32
  let c31_i32_48 : BitVec 32 := 31#32
  let v129 : BitVec 32 := Scalar.addi c1_i32_47 c31_i32_48
  let c1_i32_49 : BitVec 32 := 1#32
  ⟨c1_i32_47, v129, c1_i32_49⟩
def k0_off18 (d0 : Dev nD) (k0_t5 : Fin k0_t5_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_47 : BitVec 32 := 1#32
  let c1_i32_49 : BitVec 32 := 1#32
  let arg9 : BitVec 32 := Scf.iv c1_i32_47 c1_i32_49 k0_t5
  let v130 : BitVec 32 := Scalar.addi v2 arg9
  let c32_i32_51 : BitVec 32 := 32#32
  let v131 : BitVec 32 := Scalar.remsi v130 c32_i32_51
  ![v131.toNat]
def k0_off19 (d0 : Dev nD) (k0_t5 : Fin k0_t5_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_47 : BitVec 32 := 1#32
  let c1_i32_49 : BitVec 32 := 1#32
  let arg9 : BitVec 32 := Scf.iv c1_i32_47 c1_i32_49 k0_t5
  let v130 : BitVec 32 := Scalar.addi v2 arg9
  let c32_i32_51 : BitVec 32 := 32#32
  let v131 : BitVec 32 := Scalar.remsi v130 c32_i32_51
  let c0_i32_53 : BitVec 32 := 0#32
  let c0_i32_54 : BitVec 32 := 0#32
  ![v131.toNat, 0, 0]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_55 : BitVec 32 := 0#32
  let c0_i32_56 : BitVec 32 := 0#32
  ![v2.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Slots.lean ====
/-
# The peers of a device and the slots of its two 32-slot buffers

Pure facts, before any protocol: how far around the mesh a peer lies, the 32 disjoint slots (one per device) of the
send buffer and of the receive buffer, and the equality of the views the kernel computes with those slots.
-/
module

public import proofs.«01_k».proof.Proof.Gen.KernelIdeal
public import Idealize.ShloMosaic.Lib.ValueIdxCore

@[expose] public section

noncomputable section

namespace Cert.Exchange

open Cert.KernelIdeal Cert.KernelIdeal.Gen
open Idealize.ShloMosaic Idealize.ShloMosaic.TcCoe Idealize.SL.Sem
open Idealize.ShloMosaic.ValueIdx

/-! ## Peers -/

/-- The device that trip `k` of every loop names: `k + 1` places after `c` around the mesh. -/
def peer (c : Dev nD) (k : ℕ) : Dev nD := ⟨(c.val + k + 1) % 32, Nat.mod_lt _ (by decide)⟩

/-- How many places after `c` the device `j` lies. -/
def dist (c j : Dev nD) : ℕ := (j.val + 32 - c.val) % 32

/-- A device lies no places after itself. -/
theorem dist_self (c : Dev nD) : dist c c = 0 := by unfold dist; have : c.val < 32 := c.isLt; omega
/-- Distances are below the number of devices. -/
theorem dist_lt (c j : Dev nD) : dist c j < 32 := Nat.mod_lt _ (by decide)
/-- Trip `k`'s peer lies `k + 1` places on. -/
theorem dist_peer (c : Dev nD) {k : ℕ} (hk : k < 31) : dist c (peer c k) = k + 1 := by
  unfold dist peer; have : c.val < 32 := c.isLt; dsimp only; omega
/-- Only the device itself lies no places on. -/
theorem dist_eq_zero {c j : Dev nD} : dist c j = 0 ↔ j = c := by
  constructor
  · intro h; unfold dist at h; apply Fin.ext; have : c.val < 32 := c.isLt; have : j.val < 32 := j.isLt; omega
  · rintro rfl; exact dist_self _
/-- The device `k + 1` places on is trip `k`'s peer. -/
theorem eq_peer {c j : Dev nD} {k : ℕ} (h : dist c j = k + 1) : j = peer c k := by
  unfold dist at h; apply Fin.ext; unfold peer; have : c.val < 32 := c.isLt; have : j.val < 32 := j.isLt; dsimp only; omega
/-- No trip names the device itself. -/
theorem peer_ne (c : Dev nD) {k : ℕ} (hk : k < 31) : peer c k ≠ c := fun h => by
  have := dist_peer c hk; rw [h, dist_self] at this; omega
/-- Passing trip `k` moves nobody but its peer to the near side. -/
theorem dist_le_succ_iff {c j : Dev nD} {k : ℕ} (hj : j ≠ peer c k) : dist c j ≤ k + 1 ↔ dist c j ≤ k := by
  constructor
  · intro h; by_contra h'; exact hj (eq_peer (k := k) (by omega))
  · intro h; omega

/-- The signal loop's target. -/
theorem dev1_eq (c : Dev nD) (k : Fin k0_t1_loop.trips) (h : k0_dev1 c k < nD) : (⟨k0_dev1 c k, h⟩ : Dev nD) = peer c k.val :=
  Fin.ext (k0_dev1_eq c k)
/-- The first send loop's target. -/
theorem dev2_eq (c : Dev nD) (k : Fin k0_t2_loop.trips) (h : k0_dev2 c k < nD) : (⟨k0_dev2 c k, h⟩ : Dev nD) = peer c k.val :=
  Fin.ext (k0_dev2_eq c k)
/-- The later send loop's target. -/
theorem dev3_eq (c : Dev nD) (k : Fin k0_t3_loop.trips) (h : k0_dev3 c k < nD) : (⟨k0_dev3 c k, h⟩ : Dev nD) = peer c k.val :=
  Fin.ext (k0_dev3_eq c k)

/-- Every loop makes 31 trips. -/
theorem trips1 : k0_t1_loop.trips = 31 := by decide
theorem trips2 : k0_t2_loop.trips = 31 := by decide
theorem trips3 : k0_t3_loop.trips = 31 := by decide
theorem trips4 : k0_t4_loop.trips = 31 := by decide
theorem trips5 : k0_t5_loop.trips = 31 := by decide

/-! ## The conditions -/

/-- Which grid points each guarded stretch runs at. -/
theorem cond1_iff (i : grid0.Coords) : k0_cond1 i = 1#1 ↔ (i 0).val = 0 := by
  revert i; decide +kernel
theorem cond2_iff (i : grid0.Coords) : k0_cond2 i = 1#1 ↔ (i 0).val = 1 := by
  revert i; decide +kernel
theorem cond4_iff (i : grid0.Coords) : k0_cond4 i = 1#1 ↔ 1 < (i 0).val := by
  revert i; decide +kernel
theorem cond6_iff (i : grid0.Coords) : k0_cond6 i = 1#1 ↔ (i 0).val = 3 := by
  revert i; decide +kernel
set_option maxRecDepth 100000 in
/-- The first send loop sends to the devices below 16. -/
theorem cond3_iff (c : Dev nD) (k : Fin k0_t2_loop.trips) : k0_cond3 c k = 1#1 ↔ (peer c k.val).val < 16 := by
  revert c k; decide +kernel
set_option maxRecDepth 100000 in
/-- The later one, at point `t`, to the devices from `8 t` to `8 t + 7`. -/
theorem cond5_iff (i : grid0.Coords) (c : Dev nD) (k : Fin k0_t3_loop.trips) :
    k0_cond5 i c k = 1#1 ↔ 8 * (i 0).val ≤ (peer c k.val).val ∧ (peer c k.val).val < 8 * ((i 0).val + 1) := by
  revert i c k; decide +kernel

/-! ## Slots -/

/-- Slot `j`'s rectangle: the rows of axis 0 at `j`. -/
@[reducible] def sRect (j : Dev nD) : Rect S32x64x128 :=
  Rect.unit (s := S32x64x128) ![j.val, 0, 0] S1x64x128.size (fun a => by
    have hj : j.val < 32 := j.isLt
    match a with
    | 0 => show j.val + 1 ≤ 32; omega
    | 1 => show 0 + 64 ≤ 64; omega
    | 2 => show 0 + 128 ≤ 128; omega)

/-- Slot `j`'s indices. -/
def slotSet (j : Dev nD) : Finset S32x64x128.Idx := Finset.univ.filter fun x => (x 0).val = j.val

theorem mem_slotSet {j : Dev nD} {x : S32x64x128.Idx} : x ∈ slotSet j ↔ (x 0).val = j.val := by
  unfold slotSet; rw [Finset.mem_filter]; exact ⟨fun h => h.2, fun h => ⟨Finset.mem_univ _, h⟩⟩

/-- The rectangle covers exactly the slot's indices. -/
theorem sRect_set (j : Dev nD) : (sRect j).set = slotSet j := by
  ext x
  rw [mem_slotSet, Rect.mem_set_unit]
  constructor
  · intro h
    have h0 : j.val ≤ (x 0).val ∧ (x 0).val < j.val + 1 := h 0
    omega
  · intro h a
    match a with
    | 0 => show j.val ≤ (x 0).val ∧ (x 0).val < j.val + 1; omega
    | 1 => have : (x 1).val < 64 := (x 1).isLt; show 0 ≤ (x 1).val ∧ (x 1).val < 0 + 64; omega
    | 2 => have : (x 2).val < 128 := (x 2).isLt; show 0 ≤ (x 2).val ∧ (x 2).val < 0 + 128; omega

/-- Different devices' slots are disjoint. -/
theorem slotSet_disjoint {i j : Dev nD} (h : i ≠ j) : Disjoint (slotSet i) (slotSet j) := by
  rw [Finset.disjoint_left]; intro x hx hx'
  rw [mem_slotSet] at hx hx'; exact h (Fin.ext (by omega))
/-- The slots cover the buffer. -/
theorem slotSet_cover : Finset.univ.biUnion slotSet = (Finset.univ : Finset S32x64x128.Idx) := by
  ext x; simp only [Finset.mem_biUnion, Finset.mem_univ, true_and, iff_true]
  exact ⟨⟨(x 0).val, (x 0).isLt⟩, mem_slotSet.mpr rfl⟩

/-- Any rectangle of the slot's shape at the slot's offset is the slot's rectangle. -/
theorem rect_eq {off : Fin 3 → ℕ} {j : Dev nD} (h : off = ![j.val, 0, 0])
    (p : ∀ a, off a + S1x64x128.size a ≤ S32x64x128.size a) : Rect.unit (s := S32x64x128) off S1x64x128.size p = sRect j := by
  subst h; rfl

/-- Slot `j` of a 32-slot buffer as a transfer's end. -/
@[reducible] def slotOf (b : Memref sig .tc .vmem S32x64x128 .bf16) (j : Dev nD) : Memref sig .tc .vmem S64x128 .bf16 :=
  (b.slice (sRect j) (fun _ => rfl)).squeeze S64x128 squeezes_S1x64x128_S64x128

/-- A squeezed slice at the slot's offset is the slot. -/
theorem slotOf_eq (b : Memref sig .tc .vmem S32x64x128 .bf16) {off : Fin 3 → ℕ} {j : Dev nD} (h : off = ![j.val, 0, 0])
    (p : ∀ a, off a + S1x64x128.size a ≤ S32x64x128.size a) (q) :
    (b.slice (Rect.unit (s := S32x64x128) off S1x64x128.size p) q).squeeze S64x128 squeezes_S1x64x128_S64x128 = slotOf b j := by
  subst h; rfl

/-- The send buffer and the receive buffer. -/
abbrev yM : Memref sig .tc .vmem S32x64x128 .bf16 := Memref.whole cc0_scratch1
abbrev rM : Memref sig .tc .vmem S32x64x128 .bf16 := Memref.whole cc0_scratch2

/-- A slot's elements, through either buffer. -/
theorem slotY_set (j : Dev nD) : (slotOf yM j).view.set = slotSet j := by
  exact (View.set_reshape _ _).trans ((View.set_slice_whole (sig := sig) cc0_scratch1 (sRect j)).trans (sRect_set j))
theorem slotR_set (j : Dev nD) : (slotOf rM j).view.set = slotSet j := by
  exact (View.set_reshape _ _).trans ((View.set_slice_whole (sig := sig) cc0_scratch2 (sRect j)).trans (sRect_set j))

/-- Where the slot's rectangle puts an index. -/
theorem sRect_emb (j : Dev nD) (z : S1x64x128.Idx) : (sRect j).emb z = ix3 j (z 1) (z 2) := by
  funext a
  apply Fin.ext
  match a with
  | 0 =>
    have hz : (z 0).val < 1 := (z 0).isLt
    show j.val + 1 * (z 0).val = j.val; omega
  | 1 => show 0 + 1 * (z 1).val = (z 1).val; omega
  | 2 => show 0 + 1 * (z 2).val = (z 2).val; omega

/-- Every index of the slot is one the rectangle reaches. -/
theorem exists_emb {j : Dev nD} {x : S32x64x128.Idx} (hx : x ∈ slotSet j) : x = (sRect j).emb (ix3 0 (x 1) (x 2)) := by
  rw [sRect_emb]; funext a
  match a with
  | 0 => exact Fin.ext (mem_slotSet.mp hx)
  | 1 => rfl
  | 2 => rfl

section Contents
variable {F : FTy → Type}

/-- A transfer from slot `j` of one send buffer into slot `c` of a receive buffer leaves there the source slot's words. -/
theorem land_slot (c j : Dev nD) (fd fs : S32x64x128.Idx → Elt F .bf16) (x : S32x64x128.Idx) (hx : x ∈ slotSet c) :
    (slotOf rM c).view.write (Elt F) fd ((slotOf yM j).view.read (Elt F) fs) Finset.univ x = fs (ix3 j (x 1) (x 2)) := by
  rw [exists_emb hx]
  obtain ⟨y, hy⟩ : ∃ y : S64x128.Idx, Shape.reshapeEquiv (squeezes_S1x64x128_S64x128.numel_eq) y = (ix3 0 (x 1) (x 2) : S1x64x128.Idx) :=
    (Shape.reshapeEquiv (squeezes_S1x64x128_S64x128.numel_eq)).surjective _
  have e1 : (slotOf rM c).view.emb y = (sRect c).emb (ix3 0 (x 1) (x 2)) := by rw [← hy]; rfl
  have e2 : (slotOf yM j).view.emb y = (sRect j).emb (ix3 0 (x 1) (x 2)) := by rw [← hy]; rfl
  have e3 : ∀ z : S32x64x128.Idx, z = (slotOf rM c).view.emb y →
      (slotOf rM c).view.write (Elt F) fd ((slotOf yM j).view.read (Elt F) fs) Finset.univ z = fs ((sRect j).emb (ix3 0 (x 1) (x 2))) := by
    rintro z rfl
    refine (View.write_emb_of_mem (v := (slotOf rM c).view) _ _ (Finset.mem_univ y)).trans ?_
    show fs ((slotOf yM j).view.emb y) = _
    rw [e2]
  have e4 := e3 _ e1.symm
  rw [sRect_emb j] at e4
  rw [← exists_emb hx] at e4 ⊢
  exact e4

/-- A store through the slot's rectangle leaves its operand on the slot. -/
theorem store_slot (j : Dev nD) (f : S32x64x128.Idx → Elt F .bf16) (w : S1x64x128.Idx → Elt F .bf16) (x : S32x64x128.Idx) (hx : x ∈ slotSet j) :
    (yM.access (sRect j)).write (Elt F) f w Finset.univ x = w (ix3 0 (x 1) (x 2)) := by
  have e : ∀ z : S32x64x128.Idx, z = (yM.access (sRect j)).emb (ix3 0 (x 1) (x 2)) →
      (yM.access (sRect j)).write (Elt F) f w Finset.univ z = w (ix3 0 (x 1) (x 2)) := by
    rintro z rfl
    exact View.write_emb_of_mem (v := yM.access (sRect j)) _ _ (Finset.mem_univ _)
  exact e x (exists_emb hx)

end Contents

/-! ## Semaphores -/

/-- The send semaphore for device `j`, and the receive semaphore for device `s`. -/
def sendSem (j : Dev nD) : DmaSem sig := ⟨4 + j.val, by have : j.val < 32 := j.isLt; show 4 + j.val < 68; omega⟩
def recvSem (s : Dev nD) : DmaSem sig := ⟨36 + s.val, by have : s.val < 32 := s.isLt; show 36 + s.val < 68; omega⟩

/-- The one-element slice at offset `j` of the send semaphores names `sendSem j`. -/
theorem sendSem_eq {off : Fin 1 → ℕ} {j : Dev nD} (h : off = ![j.val]) (p : ∀ a, off a + S1.size a ≤ S32.size a) :
    ((cc0_scratch3.slice (Rect.unit (s := S32) off S1.size p)).squeeze S_ squeezes_S1_S_).sem = sendSem j := by
  subst h; revert p; revert j; decide +kernel
theorem recvSem_eq {off : Fin 1 → ℕ} {s : Dev nD} (h : off = ![s.val]) (p : ∀ a, off a + S1.size a ≤ S32.size a) :
    ((cc0_scratch4.slice (Rect.unit (s := S32) off S1.size p)).squeeze S_ squeezes_S1_S_).sem = recvSem s := by
  subst h; revert p; revert s; decide +kernel

/-- The barrier semaphore. -/
abbrev barS : Sem sig := (SemArray.scalar (sig.barrier 0 rfl) : Sems sig S_).sem

end Cert.Exchange

end
-- ==== Proof.Protocol.lean ====
/-
# The all-to-all exchange: its contents, its cells and its one-round schedule

Every device hands every other device one 64×128 slot. A device owns 65 cells: the barrier cell it waits on before its
first transfer, and for every peer a send cell and a receive cell. The barrier cell's round has one duty per peer, each
paying over the peer's landing slot; a send cell's round gives the sent slot back; a receive cell's round gives the
landed slot with its contents.
-/
module

public import proofs.«01_k».proof.Proof.Slots
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.Exchange

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: the pipeline's rounds, and the exchange's with duties named by devices -/

/-- The exchange's rounds, whose duties are named by devices. -/
abbrev UB : Type := URounds (GSem nD τ sig) (Dev nD)
/-- The pipeline's rounds beside the exchange's. -/
abbrev UU : Type := UR sig nD τ × UB

local notation "𝕄" => MT nD τ sig Unit (Elt F) ℕ UU ℕ

/-- Where the pipeline's rounds live. -/
abbrev EP : Emb (UR sig nD τ) (MT nD τ sig Unit (Elt F) ℕ UU ℕ) := embL
/-- Where the exchange's rounds live. -/
abbrev ER : Emb UB (MT nD τ sig Unit (Elt F) ℕ UU ℕ) := embR

/-- The kernel calls no variant. -/
abbrev 𝒱₀ : Variants := Variants.none

variable (m : (ℓ : Loc nD τ sig) → Buf (Elt F) ℓ)

/-! ## Contents -/

/-- Device `c`'s rows of `x`, as the kernel keeps them from the first grid point on. -/
def xbC (c : Dev nD) : FVec F S128x4096 .bf16 :=
  k0_pay7 ((win0_0.blk t0_0).view.read (Elt F) (m ((c : Thread nD τ).loc main_arg0)))
/-- The 512 columns of `w` that grid point `t` works on. -/
def wC (c : Dev nD) (t : Fin cfg0.N) : Vec F S4096x512 .bf16 :=
  (win0_1.blk t).view.read (Elt F) (m ((c : Thread nD τ).loc main_arg1))

/-- What grid point `t` computes from its columns of `w`: the rows of the result. -/
def prodC (c : Dev nD) (t : Fin cfg0.N) : FVec F S128x512 .bf16 := k0_pay8 (wC m c t) (xbC m c)

/-- The slot that the `r`-th store of grid point `t` writes. -/
def slabC (c : Dev nD) (t : Fin cfg0.N) (r : ℕ) : FVec F S1x64x128 .bf16 :=
  match r with
  | 0 => k0_pay9 (wC m c t) (xbC m c)
  | 1 => k0_pay10 (prodC m c t)
  | 2 => k0_pay11 (prodC m c t)
  | 3 => k0_pay12 (prodC m c t)
  | 4 => k0_pay13 (prodC m c t)
  | 5 => k0_pay14 (prodC m c t)
  | 6 => k0_pay15 (prodC m c t)
  | _ => k0_pay16 (prodC m c t)

/-- The grid point that writes slot `j`. -/
def pointOf (j : Dev nD) : Fin cfg0.N := ⟨j.val / 8, by have h : j.val < 32 := j.isLt; have e : cfg0.N = 4 := N_0; omega⟩

/-- The send buffer of device `c` once slot `x 0` is written. -/
def yC (c : Dev nD) : S32x64x128.Idx → Elt F .bf16 := fun x =>
  slabC m c (pointOf (x 0)) ((x 0).val % 8) (ix3 0 (x 1) (x 2))
/-- The receive buffer of device `c` once slot `x 0` has landed: device `x 0`'s slot for `c`. -/
def rC (c : Dev nD) : S32x64x128.Idx → Elt F .bf16 := fun x => yC m (x 0) (ix3 c (x 1) (x 2))
/-- Device `s`'s slot for `c`, as a loaded block. -/
def gotC (c s : Dev nD) : Vec F S1x64x128 .bf16 := fun x => yC m s (ix3 c (x 1) (x 2))
/-- The device whose rows contain row `a` of the result. -/
def rowDev (a : Fin 4096) : Dev nD := ⟨a.val / 128, by have := a.isLt; show _ < 32; omega⟩
/-- The result on device `c`: from every device's slot for `c`, the left half over the right half. -/
def outC (c : Dev nD) : S4096x64.Idx → Elt F .f32 := fun x =>
  if h : (x 0).val % 128 < 64 then
    k0_pay2 (gotC m c (rowDev (x 0))) (ix2 ⟨(x 0).val % 128, h⟩ (x 1))
  else
    k0_pay3 (gotC m c (rowDev (x 0))) (ix2 ⟨(x 0).val % 128 - 64, by omega⟩ (x 1))

/-! ## Slots as resources -/

/-- Slot `j` of device `c`'s send buffer. -/
def yPts (c j : Dev nD) (f : S32x64x128.Idx → Elt F .bf16) : sProp 𝕄 :=
  ((c : Thread nD τ).loc cc0_scratch1) ↦[slotSet j]{fullShare} f
/-- Slot `s` of device `c`'s receive buffer. -/
def rPts (c s : Dev nD) (f : S32x64x128.Idx → Elt F .bf16) : sProp 𝕄 :=
  ((c : Thread nD τ).loc cc0_scratch2) ↦[slotSet s]{fullShare} f

omit [FloatOps F] in
instance yPts_storable (c j : Dev nD) (f) : BI.Storable (upEmb : UEmb _ 𝕄) (yPts (F := F) c j f) := by unfold yPts; infer_instance
omit [FloatOps F] in
instance rPts_storable (c s : Dev nD) (f) : BI.Storable (upEmb : UEmb _ 𝕄) (rPts (F := F) c s f) := by unfold rPts; infer_instance

/-! ## Cells -/

/-- The barrier cell of device `c`. -/
abbrev barCell (c : Dev nD) : GSem nD τ sig := ((c : Thread nD τ), .reg barS)
/-- The cell that counts device `c`'s slot for `j` leaving. -/
abbrev sendCell (c j : Dev nD) : GSem nD τ sig := ((c : Thread nD τ), .dma (sendSem j))
/-- The cell that counts device `s`'s slot landing on device `c`. -/
abbrev recvCell (c s : Dev nD) : GSem nD τ sig := ((c : Thread nD τ), .dma (recvSem s))

/-- What a semaphore is for. -/
inductive Role
  | bar
  | send (j : Dev nD)
  | recv (s : Dev nD)
  | other

/-- The role of transfer semaphore `q`: 4 to 35 count departures, 36 to 67 arrivals. -/
def roleDma (q : ℕ) : Role :=
  if 36 ≤ q then .recv ⟨(q - 36) % 32, Nat.mod_lt _ (by decide)⟩
  else if 4 ≤ q then .send ⟨(q - 4) % 32, Nat.mod_lt _ (by decide)⟩
  else .other

/-- The role of each semaphore of the program. -/
def role : SemLoc sig → Role
  | .reg s => if s = barS then .bar else .other
  | .dma q => roleDma q.val

/-- The barrier semaphore's role. -/
theorem role_bar : role (.reg barS) = .bar := by unfold role; exact if_pos rfl
/-- A send semaphore's role. -/
theorem role_send (j : Dev nD) : role (.dma (sendSem j)) = .send j := by
  have hj : j.val < 32 := j.isLt
  show roleDma (4 + j.val) = _
  unfold roleDma
  rw [if_neg (by omega), if_pos (by omega)]
  exact congrArg Role.send (Fin.ext (by show (4 + j.val - 4) % 32 = j.val; omega))
/-- A receive semaphore's role. -/
theorem role_recv (s : Dev nD) : role (.dma (recvSem s)) = .recv s := by
  have hs : s.val < 32 := s.isLt
  show roleDma (36 + s.val) = _
  unfold roleDma
  rw [if_pos (by omega)]
  exact congrArg Role.recv (Fin.ext (by show (36 + s.val - 36) % 32 = s.val; omega))

/-- What one slot's transfer credits. -/
abbrev N : ℕ := (slotOf rM (0 : Dev nD)).view.dmaCredit
/-- It is positive. -/
theorem N_pos : 0 < N := View.dmaCredit_pos _ (by decide)

/-! ## The schedule -/

/-- One round. A barrier cell has one unit duty per other device `p`, paying over `p`'s landing slot for the cell's
    device; a send cell one duty, giving the sent slot back; a receive cell one duty, giving the landed slot. -/
def sched : Rounds.Schedule (GSem nD τ sig) (Dev nD) 𝕄 where
  duties g r := if r = 0 ∧ g.1.2 = .tc then
      (match role g.2 with
        | .bar => Finset.univ.erase g.1.1
        | .send j => if j = g.1.1 then ∅ else {j}
        | .recv s => if s = g.1.1 then ∅ else {s}
        | .other => ∅)
    else ∅
  unitless _ := False
  amount g _ _ := match role g.2 with
    | .bar => 1
    | _ => N
  payload g _ d := match role g.2 with
    | .bar => iprop(∃ f, rPts d g.1.1 f)
    | .send j => yPts g.1.1 j (yC m g.1.1)
    | .recv s => rPts g.1.1 s (rC m g.1.1)
    | .other => iprop(emp)
  amount_pos g _ _ _ := by
    split
    · exact Nat.one_pos
    · exact N_pos

instance sched_storable (g : GSem nD τ sig) (r : ℕ) (d : Dev nD) :
    BI.Storable (upEmb : UEmb _ 𝕄) ((sched (F := F) m).payload g r d) := by
  unfold sched
  dsimp only
  split <;> infer_instance

section Tables
variable (c : Dev nD)

/-- The barrier cell's duties: one per other device. -/
theorem duties_bar : (sched m).duties (barCell c) 0 = Finset.univ.erase c := by
  dsimp only [sched]; rw [if_pos ⟨rfl, rfl⟩, role_bar]
/-- A send cell's one duty. -/
theorem duties_send {j : Dev nD} (h : j ≠ c) : (sched m).duties (sendCell c j) 0 = {j} := by
  dsimp only [sched]; rw [if_pos ⟨rfl, rfl⟩, role_send]; exact if_neg h
/-- A receive cell's one duty. -/
theorem duties_recv {s : Dev nD} (h : s ≠ c) : (sched m).duties (recvCell c s) 0 = {s} := by
  dsimp only [sched]; rw [if_pos ⟨rfl, rfl⟩, role_recv]; exact if_neg h
/-- Nothing after round 0. -/
theorem duties_later (g : GSem nD τ sig) : ∀ r, 1 ≤ r → (sched m).duties g r = ∅ := fun r hr => by
  dsimp only [sched]; exact if_neg fun h => by omega
/-- The send cell to oneself has no duty at all. -/
theorem duties_send_self : ∀ r, 0 ≤ r → (sched m).duties (sendCell c c) r = ∅ := fun r _ => by
  dsimp only [sched]
  split
  · rw [role_send]; exact if_pos rfl
  · rfl
/-- The receive cell from oneself has no duty at all. -/
theorem duties_recv_self : ∀ r, 0 ≤ r → (sched m).duties (recvCell c c) r = ∅ := fun r _ => by
  dsimp only [sched]
  split
  · rw [role_recv]; exact if_pos rfl
  · rfl

/-- A signal is one unit. -/
theorem amount_bar (d : Dev nD) : (sched m).amount (barCell c) 0 d = 1 := by dsimp only [sched]; rw [role_bar]
/-- A departure is one slot's credit. -/
theorem amount_send (j d : Dev nD) : (sched m).amount (sendCell c j) 0 d = N := by dsimp only [sched]; rw [role_send]
/-- An arrival is one slot's credit. -/
theorem amount_recv (s d : Dev nD) : (sched m).amount (recvCell c s) 0 d = N := by dsimp only [sched]; rw [role_recv]

/-- A device waits for 31 signals. -/
theorem expect_bar : (sched m).expect (barCell c) 0 = 31 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]; rfl
/-- A departure is all a send cell expects. -/
theorem expect_send {j : Dev nD} (h : j ≠ c) : (sched m).expect (sendCell c j) 0 = N := by
  unfold Schedule.expect Schedule.amountOf; rw [duties_send m c h, Finset.sum_singleton, amount_send]
/-- An arrival is all a receive cell expects. -/
theorem expect_recv {s : Dev nD} (h : s ≠ c) : (sched m).expect (recvCell c s) 0 = N := by
  unfold Schedule.expect Schedule.amountOf; rw [duties_recv m c h, Finset.sum_singleton, amount_recv]

/-- A signal hands over the signaller's landing slot. -/
theorem payload_bar (d : Dev nD) : (sched m).payload (barCell c) 0 d = iprop(∃ f, rPts d c f) := by dsimp only [sched]; rw [role_bar]
/-- A departure gives the sent slot back. -/
theorem payload_send (j d : Dev nD) : (sched m).payload (sendCell c j) 0 d = yPts c j (yC m c) := by dsimp only [sched]; rw [role_send]
/-- An arrival gives the landed slot. -/
theorem payload_recv (s d : Dev nD) : (sched m).payload (recvCell c s) 0 d = rPts c s (rC m c) := by dsimp only [sched]; rw [role_recv]

/-- The barrier's whole round: every other device's landing slot for this one. -/
theorem rest_bar : bigSep ((sched m).duties (barCell c) 0 \ ∅) (fun d => (sched m).payload (barCell c) 0 d)
    = bigSep (Finset.univ.erase c) (fun d => iprop(∃ f, rPts (F := F) d c f)) := by
  rw [Finset.sdiff_empty, duties_bar]; exact bigSep_congr fun d _ => payload_bar m c d
/-- A send cell's whole round. -/
theorem rest_send {j : Dev nD} (h : j ≠ c) : bigSep ((sched m).duties (sendCell c j) 0 \ ∅) (fun d => (sched m).payload (sendCell c j) 0 d)
    = yPts c j (yC m c) := by
  rw [Finset.sdiff_empty, duties_send m c h, bigSep_singleton, payload_send]
/-- A receive cell's whole round. -/
theorem rest_recv {s : Dev nD} (h : s ≠ c) : bigSep ((sched m).duties (recvCell c s) 0 \ ∅) (fun d => (sched m).payload (recvCell c s) 0 d)
    = rPts c s (rC m c) := by
  rw [Finset.sdiff_empty, duties_recv m c h, bigSep_singleton, payload_recv]

end Tables

/-! ## What is still owed -/

/-- The sum of `g` over the devices not yet passed. -/
def owing {A : Type} [AddCommMonoid A] (S : Dev nD → Bool) (g : Dev nD → A) : A := ∑ j, if S j then 0 else g j

/-- Passing one device takes its term out. -/
theorem owing_take {A : Type} [AddCommMonoid A] {S S' : Dev nD → Bool} (g : Dev nD → A) {j : Dev nD} (h : S j = false) (h' : S' j = true)
    (he : ∀ i, i ≠ j → S' i = S i) : owing S g = owing S' g + g j := by
  unfold owing
  rw [← Finset.sum_erase_add _ _ (Finset.mem_univ j), ← Finset.sum_erase_add (s := Finset.univ) (f := fun i => if S' i then 0 else g i) (Finset.mem_univ j)]
  rw [h, h', if_neg Bool.false_ne_true, if_pos rfl, add_zero]
  congr 1
  exact Finset.sum_congr rfl fun i hi => by rw [he i (Finset.ne_of_mem_erase hi)]

/-- The signals device `c` has not sent yet. -/
def owedBar (c : Dev nD) (S : Dev nD → Bool) : CellTallies nD τ sig Unit :=
  owing S fun j => if j = c then 0 else tallyAt (barCell j) () 1
/-- The arrivals device `c` has not started yet. -/
def owedRecv (c : Dev nD) (S : Dev nD → Bool) : CellTallies nD τ sig Unit :=
  owing S fun j => if j = c then 0 else tallyAt (recvCell j c) () N

/-- A sum of tallies is positive at a cell only if one of them is. -/
theorem owing_pos {S : Dev nD → Bool} {t : Dev nD → CellTallies nD τ sig Unit} {g : GSem nD τ sig} {u : Unit}
    (h : 0 < owing S t g u) : ∃ j, S j = false ∧ 0 < t j g u := by
  by_contra hn
  push Not at hn
  refine absurd h ?_
  unfold owing
  rw [Finset.sum_apply, Finsupp.finset_sum_apply]
  rw [Finset.sum_eq_zero]
  · exact Nat.lt_irrefl 0
  · intro j _
    by_cases hS : S j = true
    · rw [if_pos hS]; rfl
    · rw [if_neg hS]; exact Nat.le_zero.mp (hn j (by simpa using hS))

/-- Owed signals are owed to barrier cells. -/
theorem owedBar_pos {c : Dev nD} {S : Dev nD → Bool} {g : GSem nD τ sig} {u : Unit} (h : 0 < owedBar c S g u) : ∃ j, g = barCell j := by
  obtain ⟨j, _, hj⟩ := owing_pos h
  split at hj
  · exact absurd hj (Nat.lt_irrefl 0)
  · rw [tallyAt_apply] at hj
    by_cases hg : g = barCell j ∧ u = ()
    · exact ⟨j, hg.1⟩
    · rw [if_neg hg] at hj; exact absurd hj (Nat.lt_irrefl 0)
/-- Owed arrivals are owed to receive cells. -/
theorem owedRecv_pos {c : Dev nD} {S : Dev nD → Bool} {g : GSem nD τ sig} {u : Unit} (h : 0 < owedRecv c S g u) : ∃ j, g = recvCell j c := by
  obtain ⟨j, _, hj⟩ := owing_pos h
  split at hj
  · exact absurd hj (Nat.lt_irrefl 0)
  · rw [tallyAt_apply] at hj
    by_cases hg : g = recvCell j c ∧ u = ()
    · exact ⟨j, hg.1⟩
    · rw [if_neg hg] at hj; exact absurd hj (Nat.lt_irrefl 0)

/-- Nothing is owed once every other device is passed. -/
theorem owing_done {A : Type} [AddCommMonoid A] {S : Dev nD → Bool} {g : Dev nD → A} (h : ∀ j, S j = false → g j = 0) : owing S g = 0 :=
  Finset.sum_eq_zero fun j _ => by
    by_cases hS : S j = true
    · rw [if_pos hS]
    · rw [if_neg hS]; exact h j (by simpa using hS)

/-! ## Levels -/

/-- Only the devices' main cores have cells. -/
def L (g : GSem nD τ sig) : Finset Unit := if g.1.2 = .tc then {()} else ∅
/-- Barrier cells lie at 1, receive cells at 2, all others at 0. -/
def lv (g : GSem nD τ sig) (_ : Unit) : ℕ := match role g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; rw [role_bar]
theorem lv_recv (c s : Dev nD) : lv (recvCell c s) () = 2 := by dsimp only [lv]; rw [role_recv]

omit [FloatOps F] in
/-- At its barrier a device may wait owing arrivals only. -/
theorem mayWait_bar (c : Dev nD) (S : Dev nD → Bool) :
    (levAts L lv : sProp 𝕄) ⊢ MayWait (c : Thread nD τ) (.reg barS) () (owedRecv c S) :=
  MayOwe.of_cut (L := L) (lev := lv) 1 (fun p hp => by rw [Finset.mem_singleton.mp hp, L_tc]; exact Finset.mem_singleton_self _)
    (fun g u hg => by obtain ⟨j, rfl⟩ := owedRecv_pos hg; exact Finset.mem_singleton_self _)
    (fun p hp => by rw [Finset.mem_singleton.mp hp]; exact (lv_bar c).le)
    (fun g u hg => by obtain ⟨j, rfl⟩ := owedRecv_pos hg; cases u; rw [lv_recv]; decide)

omit [FloatOps F] in
/-- At a staging semaphore a device may wait owing signals and arrivals. -/
theorem mayWait_stage (c : Dev nD) (q : DmaSem sig) (hq : q.val < 4) (S S' : Dev nD → Bool) :
    (levAts L lv : sProp 𝕄) ⊢ MayWait (c : Thread nD τ) (.dma q) () (owedRecv c S' + owedBar c S) := by
  have hpos : ∀ (g : GSem nD τ sig) (u : Unit), 0 < (owedRecv c S' + owedBar c S) g u → (∃ j, g = recvCell j c) ∨ ∃ j, g = barCell j := by
    intro g u h
    rw [Pi.add_apply, Finsupp.add_apply] at h
    rcases Nat.eq_zero_or_pos (owedRecv c S' g u) with h0 | h0
    · rw [h0, Nat.zero_add] at h; exact Or.inr (owedBar_pos h)
    · exact Or.inl (owedRecv_pos h0)
  refine MayOwe.of_cut (L := L) (lev := lv) 0 (fun p hp => by rw [Finset.mem_singleton.mp hp, L_tc]; exact Finset.mem_singleton_self _)
    (fun g u hg => by rcases hpos g u hg with ⟨j, rfl⟩ | ⟨j, rfl⟩ <;> exact Finset.mem_singleton_self _)
    (fun p hp => by
      rw [Finset.mem_singleton.mp hp]; dsimp only [lv, role, roleDma]
      rw [if_neg (show ¬ 36 ≤ q.val by omega), if_neg (show ¬ 4 ≤ q.val by omega)])
    (fun g u hg => by
      cases u
      rcases hpos g () hg with ⟨j, rfl⟩ | ⟨j, rfl⟩
      · rw [lv_recv]; decide
      · rw [lv_bar]; decide)

/-! ## A family over the devices, one half of it passed -/

/-- `B j` for the devices passed, `A j` for those to come. -/
def split (S : Dev nD → Bool) (A B : Dev nD → sProp 𝕄) : sProp 𝕄 := bigSep Finset.univ fun j => if S j then B j else A j

omit [FloatOps F] in
/-- One device out of the family, to be put back changed. -/
theorem split_at {S : Dev nD → Bool} {A B : Dev nD → sProp 𝕄} {S' : Dev nD → Bool} {A' B' : Dev nD → sProp 𝕄} (j : Dev nD)
    (he : ∀ i, i ≠ j → (if S' i then B' i else A' i) = (if S i then B i else A i)) :
    split S A B ⊢ iprop((if S j then B j else A j) ∗ ((if S' j then B' j else A' j) -∗ split S' A' B')) := by
  unfold split
  rw [bigSep_univ_split j, bigSep_univ_split j (Φ := fun j => if S' j then B' j else A' j),
    bigSep_congr (s := Finset.univ.erase j) (Φ := fun i => if S' i then B' i else A' i) fun i hi => he i (Finset.ne_of_mem_erase hi)]
  show iprop(_ ∗ _) ⊢ iprop(_ ∗ (_ -∗ (_ ∗ _)))
  iintro ⟨H1, H2⟩
  isplitl [H1]; · iexact H1
  iintro H
  isplitl [H]; · iexact H
  iexact H2

omit [FloatOps F] in
/-- One device's half passed. -/
theorem split_step {S S' : Dev nD → Bool} (A B : Dev nD → sProp 𝕄) {j : Dev nD} (h : S j = false) (h' : S' j = true)
    (he : ∀ i, i ≠ j → S' i = S i) : split S A B ⊢ iprop(A j ∗ (B j -∗ split S' A B)) := by
  have := split_at (S := S) (A := A) (B := B) (S' := S') (A' := A) (B' := B) j (fun i hi => by rw [he i hi])
  rwa [h, h', if_neg Bool.false_ne_true, if_pos rfl] at this

omit [FloatOps F] in
/-- Every device passed. -/
theorem split_all {S : Dev nD → Bool} {A B : Dev nD → sProp 𝕄} (h : ∀ j, S j = true) : split S A B = bigSep Finset.univ B :=
  bigSep_congr fun j _ => if_pos (h j)
omit [FloatOps F] in
/-- No device passed. -/
theorem split_none {S : Dev nD → Bool} {A B : Dev nD → sProp 𝕄} (h : ∀ j, S j = false) : split S A B = bigSep Finset.univ A :=
  bigSep_congr fun j _ => if_neg (by rw [h j]; exact Bool.false_ne_true)
omit [FloatOps F] in
/-- Every device but one passed. -/
theorem split_but {S : Dev nD → Bool} {A B : Dev nD → sProp 𝕄} (c : Dev nD) (h : S c = false) (h' : ∀ j, j ≠ c → S j = true) :
    split S A B = iprop(A c ∗ bigSep (Finset.univ.erase c) B) := by
  unfold split
  rw [bigSep_univ_split c, h, if_neg Bool.false_ne_true]
  congr 1
  exact bigSep_congr fun j hj => if_pos (h' j (Finset.ne_of_mem_erase hj))
omit [FloatOps F] in
/-- Only one device passed. -/
theorem split_only {S : Dev nD → Bool} {A B : Dev nD → sProp 𝕄} (c : Dev nD) (h : S c = true) (h' : ∀ j, j ≠ c → S j = false) :
    split S A B = iprop(B c ∗ bigSep (Finset.univ.erase c) A) := by
  unfold split
  rw [bigSep_univ_split c, h, if_pos rfl]
  congr 1
  exact bigSep_congr fun j hj => if_neg (by rw [h' j (Finset.ne_of_mem_erase hj)]; exact Bool.false_ne_true)

end Cert.Exchange

end
-- ==== Proof.Ops.lean ====
/-
# The kernel's operations on the exchange's cells

One lemma per kind of operation — the signal, the slot store, the transfer, the three waits —, each stated at a device
and a peer and used at every place the kernel performs it.
-/
module

public import proofs.«01_k».proof.Proof.Protocol

@[expose] public section

noncomputable section

namespace Cert.Exchange

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Every cell's invariant -/

/-- A device's cells: the barrier, the send cells, the receive cells. -/
abbrev CK : Type := Unit ⊕ (Dev nD ⊕ Dev nD)
/-- The semaphore of each. -/
def csem : CK → SemLoc sig
  | .inl _ => .reg barS
  | .inr (.inl j) => .dma (sendSem j)
  | .inr (.inr s) => .dma (recvSem s)
/-- The cell of each. -/
def kcell (ck : Dev nD × CK) : GSem nD τ sig := ((ck.1 : Thread nD τ), csem ck.2)

/-- Every cell's invariant, and that every cell has reached round 0. -/
def records (K : Dev nD × CK → ℕ) : sProp 𝕄 :=
  iprop((bigSep Finset.univ fun ck : Dev nD × CK => cellInv ER (sched m) (K ck) (kcell ck))
    ∗ bigSep Finset.univ fun ck : Dev nD × CK => reached ER (kcell ck) 0)

instance records_persistent (K : Dev nD × CK → ℕ) : BI.Persistent (records m K) := by unfold records; infer_instance

/-- One cell's invariant and reached-mark out of the records. -/
theorem records_at (K : Dev nD × CK → ℕ) (ck : Dev nD × CK) :
    records m K ⊢ iprop(cellInv ER (sched m) (K ck) (kcell ck) ∗ reached ER (kcell ck) 0) := by
  unfold records
  exact BI.sep_mono (bigSep_elim (Finset.mem_univ ck)) (bigSep_elim (Finset.mem_univ ck))

theorem records_bar (K : Dev nD × CK → ℕ) (c : Dev nD) :
    records m K ⊢ iprop(cellInv ER (sched m) (K (c, .inl ())) (barCell c) ∗ reached ER (barCell c) 0) := records_at m K (c, .inl ())
theorem records_send (K : Dev nD × CK → ℕ) (c j : Dev nD) :
    records m K ⊢ iprop(cellInv ER (sched m) (K (c, .inr (.inl j))) (sendCell c j) ∗ reached ER (sendCell c j) 0) := records_at m K (c, .inr (.inl j))
theorem records_recv (K : Dev nD × CK → ℕ) (c s : Dev nD) :
    records m K ⊢ iprop(cellInv ER (sched m) (K (c, .inr (.inr s))) (recvCell c s) ∗ reached ER (recvCell c s) 0) := records_at m K (c, .inr (.inr s))

section Ops

variable (K : Dev nD × CK → ℕ) (c : Dev nD)

/-! ## The signal -/

/-- Device `c` signals device `j`'s barrier and hands over its landing slot for `j`. -/
theorem wp_signal_peer {n j : Dev nD} (hn : n = j) (hj : j ≠ c) {a : ℤ} (ha : a = 1) (O : CellTallies nD τ sig Unit) (W : Waits sig Unit)
    {α : Type} {Q : α → sProp 𝕄} {k : PUnit → Prog (TpuEff nD τ sig (Elt F) Λ₀ .tc) α} :
    iprop(records m K ∗ owes (c : Thread nD τ) (O + tallyAt (barCell j) () 1) W ∗ (∃ f, rPts c j f) ∗ dutyTok ER (barCell j) 0 c)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  subst hn; subst ha
  iintro ⟨#HR, HO, Hr, Ht⟩
  ihave Hrec := (records_bar m K n) $$ HR
  icases Hrec with ⟨#HI, #Hreached⟩
  iapply (Rounds.wp_signal 𝒱₀ ER (sched m) (c : Thread nD τ) none (dst := (n : Thread nD τ)) (κ := K (n, .inl ()))
      (d := c) (by rw [duties_bar]; exact Finset.mem_erase.mpr ⟨hj.symm, Finset.mem_univ _⟩) ((amount_bar m n c).trans (by decide)) () O rfl)
  isplitr; · iexact HI
  isplitl [HO]; · iexact HO
  isplitl [Ht]; · iexact Ht
  isplitl [Hr]; · rw [payload_bar]; iexact Hr
  iexact Hreached

/-! ## The waits -/

/-- Device `c` waits for its 31 signals: every other device's landing slot for `c`, and the barrier cell closed. -/
theorem wp_wait_bar {a : ℤ} (ha : a = 31) (S : Dev nD → Bool) (W : Waits sig Unit)
    {α : Type} {Q : α → sProp 𝕄} {k : PUnit → Prog (TpuEff nD τ sig (Elt F) Λ₀ .tc) α} :
    iprop(records m K ∗ levAts L lv ∗ cred (tallyAt (barCell c) () 31) ∗ owes (c : Thread nD τ) (owedRecv c S) W ∗ atPos ER (barCell c) 0 ∅ 0)
      ⊢ iprop(((owes (c : Thread nD τ) (owedRecv c S) (insert (SemLoc.reg barS, ()) W) ∗ semVal (barCell c) 0
              ∗ bigSep (Finset.univ.erase c) fun d => iprop(∃ f, rPts (F := F) d c f)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  iintro ⟨#HR, #Hlev, Hc, HO, Hat⟩ Hk
  ihave Hrec := (records_bar m K c) $$ HR
  icases Hrec with ⟨#HI, -⟩
  iapply (Rounds.wp_wait_rest_token 𝒱₀ ER (sched m) (c : Thread nD τ) none (κ := K (c, .inl ()))
      (wpE_semWait_eq 𝒱₀ (c : Thread nD τ) none Set.univ) (Set.mem_univ _) () (O := owedRecv c S) (W := W) (R := 0) (m := 0) (T := ∅)
      (by rw [expect_bar])) $$ [Hc HO Hat]
  · isplitr; · iexact HI
    isplitl [Hc]; · iexact Hc
    isplitl [HO]; · iexact HO
    isplitr; · iapply (mayWait_bar c S); iexact Hlev
    iexact Hat
  iintro ⟨HO, Hat, -, Hpay⟩
  ihave Hp := (Entails.of_eq (rest_bar m c)) $$ Hpay
  imod (Rounds.cell_close ER (sched m) (Set.mem_univ (K (c, .inl ()))) (fun h => h) (R := 0 + 1) (duties_later m (barCell c))) $$ [Hat] with Hz
  · isplitr; · iexact HI
    iexact Hat
  iapply Hk
  isplitl [HO]; · iexact HO
  isplitl [Hz]; · iexact Hz
  iexact Hp

/-- Device `c`, owing nothing, waits for device `s`'s slot: the slot landed, and the cell closed. -/
theorem wp_wait_recv {s : Dev nD} (hs : s ≠ c) {q : DmaSem sig} (hq : q = recvSem s) {src dst : Memref sig .tc .vmem S64x128 .bf16}
    {h₁ : src.view.WordExact} {h₂ : dst.view.WordExact} (W : Waits sig Unit) {α : Type} {Q : α → sProp 𝕄} {k : PUnit → Prog (TpuEff nD τ sig (Elt F) Λ₀ .tc) α} :
    iprop(records m K ∗ cred (tallyAt (recvCell c s) () N) ∗ owes (c : Thread nD τ) 0 W ∗ atPos ER (recvCell c s) 0 ∅ 0)
      ⊢ iprop(((owes (c : Thread nD τ) 0 (insert (SemLoc.dma (recvSem s), ()) W) ∗ semVal (recvCell c s) 0 ∗ rPts c s (rC m c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h₁ h₂) k) Q) := by
  subst hq
  iintro ⟨#HR, Hc, HO, Hat⟩ Hk
  ihave Hrec := (records_recv m K c s) $$ HR
  icases Hrec with ⟨#HI, -⟩
  iapply (Rounds.wp_wait_rest_token 𝒱₀ ER (sched m) (c : Thread nD τ) none (κ := K (c, .inr (.inr s)))
      (wpE_waitDma2_eq 𝒱₀ (c : Thread nD τ) none Set.univ) (Set.mem_univ _) () (O := 0) (W := W) (R := 0) (m := 0) (T := ∅)
      (by rw [Nat.zero_add, expect_recv m c hs])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c hs)) $$ Hpay
  imod (Rounds.cell_close ER (sched m) (Set.mem_univ (K (c, .inr (.inr s)))) (fun h => h) (R := 0 + 1) (duties_later m (recvCell c s))) $$ [Hat] with Hz
  · isplitr; · iexact HI
    iexact Hat
  iapply Hk
  isplitl [HO]; · iexact HO
  isplitl [Hz]; · iexact Hz
  iexact Hp

/-- Device `c`, owing nothing, waits for its slot for `j` to have left: the slot back, and the cell closed. -/
theorem wp_wait_send {j : Dev nD} (hj : j ≠ c) {q : DmaSem sig} (hq : q = sendSem j) {src dst : Memref sig .tc .vmem S64x128 .bf16}
    {h₁ : src.view.WordExact} {h₂ : dst.view.WordExact} (W : Waits sig Unit) {α : Type} {Q : α → sProp 𝕄} {k : PUnit → Prog (TpuEff nD τ sig (Elt F) Λ₀ .tc) α} :
    iprop(records m K ∗ cred (tallyAt (sendCell c j) () N) ∗ owes (c : Thread nD τ) 0 W ∗ atPos ER (sendCell c j) 0 ∅ 0)
      ⊢ iprop(((owes (c : Thread nD τ) 0 (insert (SemLoc.dma (sendSem j), ()) W) ∗ semVal (sendCell c j) 0 ∗ yPts c j (yC m c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h₁ h₂) k) Q) := by
  subst hq
  iintro ⟨#HR, Hc, HO, Hat⟩ Hk
  ihave Hrec := (records_send m K c j) $$ HR
  icases Hrec with ⟨#HI, -⟩
  iapply (Rounds.wp_wait_rest_token 𝒱₀ ER (sched m) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_send m c hj])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c hj)) $$ Hpay
  imod (Rounds.cell_close ER (sched m) (Set.mem_univ (K (c, .inr (.inl j)))) (fun h => h) (R := 0 + 1) (duties_later m (sendCell c j))) $$ [Hat] with Hz
  · isplitr; · iexact HI
    iexact Hat
  iapply Hk
  isplitl [HO]; · iexact HO
  isplitl [Hz]; · iexact Hz
  iexact Hp

/-- The send cell to oneself, never used, closed. -/
theorem close_send_self : iprop(records m K ∗ atPos ER (sendCell c c) 0 ∅ 0) ⊢ |={Set.univ}=> semVal (sendCell c c) 0 := by
  iintro ⟨#HR, Hat⟩
  ihave Hrec := (records_send m K c c) $$ HR
  icases Hrec with ⟨#HI, -⟩
  iapply (Rounds.cell_close ER (sched m) (Set.mem_univ (K (c, .inr (.inl c)))) (fun h => h) (R := 0) (duties_send_self m c))
  isplitr; · iexact HI
  iexact Hat
/-- The receive cell from oneself, never used, closed. -/
theorem close_recv_self : iprop(records m K ∗ atPos ER (recvCell c c) 0 ∅ 0) ⊢ |={Set.univ}=> semVal (recvCell c c) 0 := by
  iintro ⟨#HR, Hat⟩
  ihave Hrec := (records_recv m K c c) $$ HR
  icases Hrec with ⟨#HI, -⟩
  iapply (Rounds.cell_close ER (sched m) (Set.mem_univ (K (c, .inr (.inr c)))) (fun h => h) (R := 0) (duties_recv_self m c))
  isplitr; · iexact HI
  iexact Hat

/-! ## The transfer -/

omit [FloatOps F] in
/-- Every slot's transfer credits the same. -/
theorem credit_eq (q : DmaSem sig) : (slotOf rM c).view.amount (.dma q) = N := rfl
omit [FloatOps F] in
/-- A transfer's source is the slot. -/
theorem ySlot_eq (j : Dev nD) (f : S32x64x128.Idx → Elt F .bf16) :
    ((slotOf yM j).view.loc (c : Thread nD τ) ↦[(slotOf yM j).view.set]{fullShare} f : sProp 𝕄) = yPts c j f := by
  unfold yPts; rw [slotY_set]
omit [FloatOps F] in
/-- A transfer's destination is the slot. -/
theorem rSlot_eq (s : Dev nD) (f : S32x64x128.Idx → Elt F .bf16) :
    ((slotOf rM s).view.loc (c : Thread nD τ) ↦[(slotOf rM s).view.set]{fullShare} f : sProp 𝕄) = rPts c s f := by
  unfold rPts; rw [slotR_set]
/-- What a transfer leaves in its destination is the slot landed. -/
theorem landed_pts (n : Dev nD) (f : S32x64x128.Idx → Elt F .bf16) :
    rPts n c ((slotOf rM c).view.write (Elt F) f ((slotOf yM n).view.read (Elt F) (yC m c)) Finset.univ) ⊢ rPts n c (rC m n) := by
  have he : ∀ x ∈ slotSet c, (slotOf rM c).view.write (Elt F) f ((slotOf yM n).view.read (Elt F) (yC m c)) Finset.univ x = rC m n x := by
    intro x hx
    refine (land_slot c n f (yC m c) x hx).trans ?_
    have h0 : x 0 = c := Fin.ext (mem_slotSet.mp hx)
    unfold rC; rw [h0]
  unfold rPts
  exact Entails.of_eq (pointsTo_congr he)

/-- Device `c` sends its written slot for `j` into its slot on device `j`. -/
theorem wp_send_peer {n j : Dev nD} (hn : n = j) (hj : j ≠ c) {src : Memref sig .tc .vmem S64x128 .bf16} (hsrc : src = slotOf yM j)
    {dst : Memref sig (Dev.tc n : Thread nD τ).2.kind .vmem S64x128 .bf16} (hdst : dst = slotOf rM c)
    {sS sR : DmaSem sig} (hS : sS = sendSem j) (hR : sR = recvSem c)
    {hsc : dst.view.ref.isScScratch = false} {h₁ : src.view.WordExact} {h₂ : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (f : S32x64x128.Idx → Elt F .bf16) (O : CellTallies nD τ sig Unit) (W : Waits sig Unit) :
    iprop(records m K ∗ yPts c j (yC m c) ∗ rPts j c f ∗ owes (c : Thread nD τ) (O + tallyAt (recvCell j c) () N) W
        ∗ dutyTok ER (sendCell c j) 0 j ∗ dutyTok ER (recvCell j c) 0 c)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc n : Thread nD τ) dst (.dma sS) hsc) (.dma sR) h₁ h₂ hsem) k) Q) := by
  subst hn; subst hsrc; subst hdst; subst hS; subst hR
  have hp₁ : ((slotOf yM n).view.loc (c : Thread nD τ) ↦[(slotOf yM n).view.set]{fullShare} yC m c : sProp 𝕄)
      ⊢ (sched m).payload (sendCell c n) 0 n :=
    (Entails.of_eq (ySlot_eq c n _)).trans (Entails.of_eq (payload_send m c n n).symm)
  have hp₂ : ((slotOf rM c).view.loc (n : Thread nD τ) ↦[(slotOf rM c).view.set]{fullShare}
        ((slotOf rM c).view.write (Elt F) f ((slotOf yM n).view.read (Elt F) (yC m c)) Finset.univ) : sProp 𝕄)
      ⊢ (sched m).payload (recvCell n c) 0 c :=
    ((Entails.of_eq (rSlot_eq n c _)).trans (landed_pts m c n f)).trans (Entails.of_eq (payload_recv m n c c).symm)
  have hN : (slotOf rM c).view.amount (.dma (recvSem c)) = N := credit_eq c _
  iintro ⟨#HR, Hy, Hr, HO, Hts, Htr⟩
  ihave Hrec := (records_send m K c n) $$ HR
  icases Hrec with ⟨#HIs, #Hrs⟩
  ihave Hrec := (records_recv m K n c) $$ HR
  icases Hrec with ⟨#HIr, #Hrr⟩
  iapply (Rounds.wp_send_pointsTo 𝒱₀ ER (sched m) (c : Thread nD τ) none (c' := (n : Thread nD τ)) (src := slotOf yM n) (dst := slotOf rM c)
    (sS := .dma (sendSem n)) (sem := .dma (recvSem c)) (κ₁ := K (c, .inr (.inl n))) (κ₂ := K (n, .inr (.inr c)))
    (r₁ := 0) (r₂ := 0) (d₁ := n) (d₂ := c) (fd := f) (fs := yC m c) (q := fullShare)
    (by rw [duties_send m c hj]; exact Finset.mem_singleton_self _) (by rw [duties_recv m n hj.symm]; exact Finset.mem_singleton_self _)
    () () N hN (amount_send m c n n) (amount_recv m n c c) O rfl (W := W)
    hp₁ hp₂)
  isplitr; · iexact HIs
  isplitr; · iexact HIr
  isplitl [Hy]; · iapply (Entails.of_eq (ySlot_eq c n (yC m c)).symm); iexact Hy
  isplitl [Hr]; · iapply (Entails.of_eq (rSlot_eq n c f).symm); iexact Hr
  isplitl [HO]; · iexact HO
  isplitl [Hts]; · iexact Hts
  isplitr; · iexact Hrs
  isplitl [Htr]; · iexact Htr
  iexact Hrr

/-! ## The slot store -/

/-- `H` holds the send buffer with its first slots written, and lets the next slot be written, from slot `lo` to slot `hi`. -/
def Fills (H : ℕ → sProp 𝕄) (lo hi : ℕ) : Prop :=
  ∀ j : Dev nD, lo ≤ j.val → j.val < hi → H j.val ⊢ iprop((∃ f, yPts c j f) ∗ (yPts c j (yC m c) -∗ H (j.val + 1)))

omit [FloatOps F] in
/-- A load of slot `j` reads the slot's elements only. -/
theorem hload_slot (j : Dev nD) : yM.view.setOn (sRect j).set ⊆ slotSet j := by
  rw [sRect_set]
  intro x hx
  obtain ⟨y, hy, rfl⟩ := Finset.mem_map.mp hx
  exact hy

/-- The store that fills slot `j` (the value loaded before it is dropped). -/
theorem wp_fill {H : ℕ → sProp 𝕄} {lo hi : ℕ} (hH : Fills m c H lo hi) (j : Dev nD) (hlo : lo ≤ j.val) (hhi : j.val < hi)
    {off : Fin 3 → ℕ} (hoff : off = ![j.val, 0, 0]) {p p' : ∀ a, off a + S1x64x128.size a ≤ S32x64x128.size a}
    {hl : yM.view.LoadsAt (Rect.unit (s := S32x64x128) off S1x64x128.size p').toLoadRect}
    {w : S1x64x128.Idx → Elt F .bf16} (hw : w = slabC m c (pointOf j) (j.val % 8))
    {hx : (yM.access (Rect.unit (s := S32x64x128) off S1x64x128.size p)).Stores Finset.univ} {hm}
    {α : Type} {Q : α → sProp 𝕄} {k : PUnit → Prog (TpuEff nD τ sig (Elt F) Λ₀ .tc) α} :
    H j.val ⊢ iprop((H (j.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.load yM (Rect.unit (s := S32x64x128) off S1x64x128.size p').toLoadRect hl) fun _ =>
              .op (.store yM (Rect.unit (s := S32x64x128) off S1x64x128.size p) w Finset.univ hx hm) k) Q) := by
  subst hoff
  iintro HH Hk
  ihave HH := (hH j hlo hhi) $$ HH
  icases HH with ⟨⟨%f, Hy⟩, Hback⟩
  unfold yPts
  iapply (wp_load 𝒱₀ (c : Thread nD τ) none Set.univ (m := yM) (S := slotSet j) (hload_slot j)) $$ Hy
  iintro Hy
  iapply (wp_store 𝒱₀ (c : Thread nD τ) none Set.univ (m := yM) (r := sRect j) (Mk := Finset.univ) (S := slotSet j) (by
    rw [View.setOn_univ]
    exact ((View.set_slice_whole (sig := sig) cc0_scratch1 (sRect j)).trans (sRect_set j)).le)) $$ Hy
  iintro Hy
  iapply Hk
  iapply Hback
  have he : ∀ x ∈ slotSet j, (yM.access (sRect j)).write (Elt F) f w Finset.univ x = yC m c x := by
    intro x hx
    refine (store_slot j f w x hx).trans ?_
    have h0 : x 0 = j := Fin.ext (mem_slotSet.mp hx)
    unfold yC
    rw [hw, h0]
  iapply (Entails.of_eq (pointsTo_congr he))
  iexact Hy

end Ops

end Cert.Exchange

end
-- ==== Proof.Loops.lean ====
/-
# The kernel's five loops

Each loop visits the 31 other devices in mesh order. Its invariant splits a family over the devices into those visited
and those to come; one trip moves one device across.
-/
module

public import proofs.«01_k».proof.Proof.Ops

@[expose] public section

noncomputable section

namespace Cert.Exchange

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The result's staging buffer and the kernel's copy of `x`. -/
abbrev oM : Memref sig .tc .vmem S4096x64 .f32 := Memref.whole cc0_stg2_0
abbrev xM : Memref sig .tc .vmem S128x4096 .bf16 := Memref.whole cc0_scratch0

/-! ## Which devices are passed -/

/-- No device. -/
def nobody : Dev nD → Bool := fun _ => false
theorem nobody_eq (j : Dev nD) : nobody j = false := rfl
/-- The other devices among the first `k` places after `c`. -/
def near (c : Dev nD) (k : ℕ) : Dev nD → Bool := fun j => decide (j ≠ c ∧ dist c j ≤ k)
/-- `c` and the first `k` places after it. -/
def upto (c : Dev nD) (k : ℕ) : Dev nD → Bool := fun j => decide (dist c j ≤ k)
/-- The other devices below `n`. -/
def below (c : Dev nD) (n : ℕ) : Dev nD → Bool := fun j => decide (j ≠ c ∧ j.val < n)
/-- The other devices below `lo`, and those below `hi` among the first `k` places after `c`. -/
def partway (c : Dev nD) (lo hi k : ℕ) : Dev nD → Bool := fun j => decide (j ≠ c ∧ (j.val < lo ∨ (j.val < hi ∧ dist c j ≤ k)))

section Sets
variable (c : Dev nD) {k : ℕ} (hk : k < 31)

theorem near_zero : near c 0 = nobody := funext fun j => decide_eq_false fun h => h.1 (dist_eq_zero.mp (Nat.le_zero.mp h.2))
theorem near_all {j : Dev nD} (h : j ≠ c) : near c 31 j = true := decide_eq_true ⟨h, by have := dist_lt c j; omega⟩
theorem near_self (k : ℕ) : near c k c = false := decide_eq_false fun h => h.1 rfl
include hk in
theorem near_before : near c k (peer c k) = false := decide_eq_false fun h => by rw [dist_peer c hk] at h; omega
include hk in
theorem near_after : near c (k + 1) (peer c k) = true := decide_eq_true ⟨peer_ne c hk, (dist_peer c hk).le⟩
theorem near_else {i : Dev nD} (h : i ≠ peer c k) : near c (k + 1) i = near c k i :=
  decide_eq_decide.mpr (and_congr_right fun _ => dist_le_succ_iff h)

theorem upto_self : upto c 0 c = true := decide_eq_true (dist_self c).le
theorem upto_zero {j : Dev nD} (h : j ≠ c) : upto c 0 j = false := decide_eq_false fun h' => h (dist_eq_zero.mp (Nat.le_zero.mp h'))
theorem upto_all (j : Dev nD) : upto c 31 j = true := decide_eq_true (by have := dist_lt c j; omega)
include hk in
theorem upto_before : upto c k (peer c k) = false := decide_eq_false fun h => by rw [dist_peer c hk] at h; omega
include hk in
theorem upto_after : upto c (k + 1) (peer c k) = true := decide_eq_true (dist_peer c hk).le
theorem upto_else {i : Dev nD} (h : i ≠ peer c k) : upto c (k + 1) i = upto c k i := decide_eq_decide.mpr (dist_le_succ_iff h)

variable {lo hi : ℕ}

theorem partway_zero : partway c lo hi 0 = below c lo := funext fun j => decide_eq_decide.mpr
  ⟨fun ⟨h, h'⟩ => ⟨h, h'.resolve_right fun h'' => h (dist_eq_zero.mp (Nat.le_zero.mp h''.2))⟩, fun ⟨h, h'⟩ => ⟨h, Or.inl h'⟩⟩
theorem partway_all (hlo : lo ≤ hi) : partway c lo hi 31 = below c hi := funext fun j => decide_eq_decide.mpr
  ⟨fun ⟨h, h'⟩ => ⟨h, by omega⟩, fun ⟨h, h'⟩ => ⟨h, Or.inr ⟨h', by have := dist_lt c j; omega⟩⟩⟩
include hk in
theorem partway_before (h : lo ≤ (peer c k).val) : partway c lo hi k (peer c k) = false :=
  decide_eq_false fun h' => by rw [dist_peer c hk] at h'; omega
include hk in
theorem partway_after (h : (peer c k).val < hi) : partway c lo hi (k + 1) (peer c k) = true :=
  decide_eq_true ⟨peer_ne c hk, Or.inr ⟨h, (dist_peer c hk).le⟩⟩
theorem partway_else {i : Dev nD} (h : i ≠ peer c k) : partway c lo hi (k + 1) i = partway c lo hi k i :=
  decide_eq_decide.mpr (and_congr_right fun _ => or_congr_right (and_congr_right fun _ => dist_le_succ_iff h))
/-- A trip that sends nothing passes nobody. -/
theorem partway_skip (h : ¬ (lo ≤ (peer c k).val ∧ (peer c k).val < hi)) : partway c lo hi (k + 1) = partway c lo hi k := funext fun i => by
  by_cases hi' : i = peer c k
  · subst hi'; exact decide_eq_decide.mpr (and_congr_right fun _ => by omega)
  · exact partway_else c hi'
theorem below_zero : below c 0 = nobody := funext fun j => decide_eq_false fun h => Nat.not_lt_zero _ h.2
theorem below_self (n : ℕ) : below c n c = false := decide_eq_false fun h => h.1 rfl
theorem below_all {j : Dev nD} (h : j ≠ c) : below c 32 j = true := decide_eq_true ⟨h, j.isLt⟩

end Sets

/-! ## What a device holds -/

section Held
variable (c : Dev nD)

/-- What device `c` owes, whatever it has waited on. -/
def owesAny (O : CellTallies nD τ sig Unit) : sProp 𝕄 := iprop(∃ W, owes (c : Thread nD τ) O W)

/-- Slot `j` of the send buffer, its contents known once the first `w` slots are written. -/
def ySlot (w : ℕ) (j : Dev nD) : sProp 𝕄 := if j.val < w then yPts c j (yC m c) else iprop(∃ f, yPts c j f)

/-- Before the signal to `j`: the landing slot to hand over and the right to signal. -/
def toSignal (j : Dev nD) : sProp 𝕄 := iprop((∃ f, rPts (F := F) c j f) ∗ dutyTok ER (barCell j) 0 c)
/-- The rights to the transfer to `j`. -/
def sendToks (j : Dev nD) : sProp 𝕄 := iprop(dutyTok ER (sendCell c j) 0 j ∗ dutyTok ER (recvCell j c) 0 c)
/-- Before the transfer to `j`: the slot, its landing place, and the rights. -/
def toSend (w : ℕ) (j : Dev nD) : sProp 𝕄 := iprop(ySlot m c w j ∗ (∃ f, rPts j c f) ∗ sendToks c j)
/-- After the transfer to `j`: what will be counted when the slot has left. -/
def sent (j : Dev nD) : sProp 𝕄 := cred (tallyAt (sendCell c j) () N)
/-- Before the wait for `s`'s slot. -/
def toRecv (s : Dev nD) : sProp 𝕄 := iprop(atPos ER (recvCell c s) 0 ∅ 0 ∗ cred (tallyAt (recvCell c s) () N))
/-- After it. -/
def recvd (s : Dev nD) : sProp 𝕄 := iprop((∃ f, rPts (F := F) c s f) ∗ semVal (recvCell c s) 0)
/-- Before the wait for the slot for `j` to have left. -/
def toLeave (j : Dev nD) : sProp 𝕄 := iprop(atPos ER (sendCell c j) 0 ∅ 0 ∗ cred (tallyAt (sendCell c j) () N))
/-- After it. -/
def gone (j : Dev nD) : sProp 𝕄 := iprop((∃ f, yPts (F := F) c j f) ∗ semVal (sendCell c j) 0)

end Held

/-! ## A loop, and a called part, before what follows it -/

omit [FloatOps F] in
/-- What follows a program runs from what the program leaves. -/
theorem wp_then {c : Dev nD} {α β : Type} {p : Prog (TpuEff nD τ sig (Elt F) Λ₀ .tc) α} {kk : α → Prog (TpuEff nD τ sig (Elt F) Λ₀ .tc) β}
    {P : sProp 𝕄} {R : α → sProp 𝕄} {Q : β → sProp 𝕄} [FloatOps F]
    (h : P ⊢ wp frame (wpE (defs₀ (F := F)) 𝒱₀ (c : Thread nD τ) none) Set.univ p R) :
    P ⊢ iprop((∀ a, R a -∗ wp frame (wpE (defs₀ (F := F)) 𝒱₀ (c : Thread nD τ) none) Set.univ (kk a) Q) -∗ wp frame (wpE (defs₀ (F := F)) 𝒱₀ (c : Thread nD τ) none) Set.univ (p >>= kk) Q) := by
  rw [wp_bind]
  exact h.trans ((wp_wand (Q' := fun a => wp frame (wpE (defs₀ (F := F)) 𝒱₀ (c : Thread nD τ) none) Set.univ (kk a) Q) _ _ _))

section Loops

variable (K : Dev nD × CK → ℕ) (c : Dev nD) (i : grid0.Coords)
  (arg1 : Memref sig .tc .vmem S128x4096 .bf16) (harg1 : arg1.IsWhole) (arg2 : Memref sig .tc .vmem S4096x512 .bf16) (harg2 : arg2.IsWhole)

/-! ## The signals -/

/-- Before trip `k` of the signal loop. -/
def signalInv (k : ℕ) : sProp 𝕄 :=
  iprop(records m K ∗ owesAny c (owedRecv c nobody + owedBar c (near c k)) ∗ split (near c k) (toSignal c) fun _ => iprop(emp))

/-- One signal. -/
theorem signal_step (h : k0_cond1 i = 1#1) (k : Fin k0_t1_loop.trips) (acc : Unit) :
    signalInv m K c k.val ⊢ wp frame (wpE (defs₀ (F := F)) 𝒱₀ (c : Thread nD τ) none) Set.univ (k0_t1_body (F := F) i arg1 harg1 arg2 harg2 oM (Memref.isWhole_whole _) xM (Memref.isWhole_whole _) yM (Memref.isWhole_whole _) rM (Memref.isWhole_whole _) cc0_scratch3 cc0_scratch4 c (SemArray.scalar (sig.barrier 0 rfl)) h k acc) fun _ => signalInv m K c (k.val + 1) := by
  have hk : k.val < 31 := k.isLt.trans_eq trips1
  unfold k0_t1_body
  simp only [semSignalWord, Prog.bind_op, Prog.bind_ret, Prog.pure_eq_ret]
  unfold signalInv owesAny
  have hO : owedRecv c nobody + owedBar c (near c k.val)
      = owedRecv c nobody + owedBar c (near c (k.val + 1)) + tallyAt (barCell (peer c k.val)) () 1 := by
    unfold owedBar
    rw [owing_take _ (near_before c hk) (near_after c hk) (fun i hi => near_else c hi), if_neg (peer_ne c hk), add_assoc]
  rw [hO]
  iintro ⟨#HR, ⟨%W, HO⟩, HS⟩
  ihave HS := (split_step (toSignal c) (fun _ => iprop(emp)) (near_before c hk) (near_after c hk) (fun i hi => near_else c hi)) $$ HS
  unfold toSignal
  icases HS with ⟨⟨Hr, Ht⟩, Hback⟩
  iapply (wp_signal_peer m K c (dev1_eq c k _) (peer_ne c hk) (by decide) (owedRecv c nobody + owedBar c (near c (k.val + 1))) W) $$ [HO Hr Ht]
  · isplitr; · iexact HR
    isplitl [HO]; · iexact HO
    isplitl [Hr]; · iexact Hr
    iexact Ht
  iintro HO
  rw [wp_ret]; imodintro
  isplitr; · iexact HR
  isplitl [HO]; · iexists W; iexact HO
  iapply Hback; iempintro

/-- The whole signal loop: every signal sent, every landing slot but one's own handed over. -/
theorem signal_loop (h : k0_cond1 i = 1#1) (hok) :
    iprop(records m K ∗ owesAny c (owedRecv c nobody + owedBar c nobody) ∗ bigSep Finset.univ (toSignal (F := F) c))
      ⊢ wp frame (wpE (defs₀ (F := F)) 𝒱₀ (c : Thread nD τ) none) Set.univ (Scf.Loop.for k0_t1_loop hok ⟨⟩ (k0_t1_body (F := F) i arg1 harg1 arg2 harg2 oM (Memref.isWhole_whole _) xM (Memref.isWhole_whole _) yM (Memref.isWhole_whole _) rM (Memref.isWhole_whole _) cc0_scratch3 cc0_scratch4 c (SemArray.scalar (sig.barrier 0 rfl)) h))
          fun _ => iprop(owesAny c (owedRecv c nobody) ∗ ∃ f, rPts c c f) := by
  have h0 : iprop(records m K ∗ owesAny c (owedRecv c nobody + owedBar c nobody) ∗ bigSep Finset.univ (toSignal (F := F) c)) ⊢ signalInv m K c 0 := by
    unfold signalInv
    rw [near_zero, split_none nobody_eq]
  have h31 : signalInv m K c k0_t1_loop.trips ⊢ iprop(owesAny c (owedRecv c nobody) ∗ ∃ f, rPts c c f) := by
    rw [trips1]
    unfold signalInv
    rw [split_but c (near_self c 31) (fun j hj => near_all c hj)]
    have hz : owedBar c (near c 31) = 0 := owing_done fun j hj => by
      by_cases hjc : j = c
      · exact if_pos hjc
      · rw [near_all c hjc] at hj; exact absurd hj (by decide)
    rw [hz, add_zero]
    unfold toSignal
    iintro ⟨-, HO, ⟨Hr, -⟩, -⟩
    isplitl [HO]; · iexact HO
    iexact Hr
  iintro H
  iapply (Scf.wp_for _ _ _ _ _ _ _ _ _ (fun k _ => signalInv m K c k) (fun k acc => signal_step m K c i arg1 harg1 arg2 harg2 h k acc))
  isplitl [H]; · iapply h0; iexact H
  iintro %acc H
  iapply h31; iexact H

/-! ## The transfers -/

/-- Before trip `k` of a transfer loop serving devices `lo` to `hi`. -/
def sendInv (lo hi k : ℕ) : sProp 𝕄 :=
  iprop(records m K ∗ owesAny c (owedRecv c (partway c lo hi k)) ∗ split (partway c lo hi k) (toSend m c hi) (sent c))

/-- A trip that sends nothing. -/
theorem send_skip {lo hi k : ℕ} (h : ¬ (lo ≤ (peer c k).val ∧ (peer c k).val < hi)) : sendInv m K c lo hi k ⊢ sendInv m K c lo hi (k + 1) := by
  unfold sendInv; rw [partway_skip c h]

/-- A trip that sends, as the transfer's rule wants it: what goes in, and what comes back of it. -/
theorem send_open {lo hi k : ℕ} (hk : k < 31) (h : lo ≤ (peer c k).val ∧ (peer c k).val < hi) :
    sendInv m K c lo hi k ⊢ iprop(∃ f W, (records m K ∗ yPts c (peer c k) (yC m c) ∗ rPts (peer c k) c f
        ∗ owes (c : Thread nD τ) (owedRecv c (partway c lo hi (k + 1)) + tallyAt (recvCell (peer c k) c) () N) W
        ∗ dutyTok ER (sendCell c (peer c k)) 0 (peer c k) ∗ dutyTok ER (recvCell (peer c k) c) 0 c)
      ∗ ((cred (tallyAt (sendCell c (peer c k)) () N) ∗ owes (c : Thread nD τ) (owedRecv c (partway c lo hi (k + 1))) W) -∗ sendInv m K c lo hi (k + 1))) := by
  unfold sendInv owesAny
  have hO : owedRecv c (partway c lo hi k) = owedRecv c (partway c lo hi (k + 1)) + tallyAt (recvCell (peer c k) c) () N := by
    unfold owedRecv
    rw [owing_take _ (partway_before c hk h.1) (partway_after c hk h.2) (fun i hi => partway_else c hi), if_neg (peer_ne c hk)]
  rw [hO]
  iintro ⟨#HR, ⟨%W, HO⟩, HS⟩
  ihave HS := (split_step (toSend m c hi) (sent c) (partway_before c hk h.1) (partway_after c hk h.2) (fun i hi => partway_else c hi)) $$ HS
  icases HS with ⟨HA, Hback⟩
  unfold toSend sendToks ySlot sent
  rw [if_pos h.2]
  icases HA with ⟨Hy, ⟨%f, Hr⟩, Hts, Htr⟩
  iexists f; iexists W
  isplitl [Hy Hr HO Hts Htr]
  · isplitr; · iexact HR
    isplitl [Hy]; · iexact Hy
    isplitl [Hr]; · iexact Hr
    isplitl [HO]; · iexact HO
    isplitl [Hts] <;> iassumption
  iintro ⟨Hc, HO⟩
  isplitr; · iexact HR
  isplitl [HO]; · iexists W; iexact HO
  iapply Hback; iexact Hc

/-- One trip of the first transfer loop. -/
theorem send2_step (h : k0_cond2 i = 1#1) (k : Fin k0_t2_loop.trips) (acc : Unit) :
    sendInv m K c 0 16 k.val ⊢ wp frame (wpE (defs₀ (F := F)) 𝒱₀ (c : Thread nD τ) none) Set.univ (k0_t2_body (F := F) i arg1 harg1 arg2 harg2 oM (Memref.isWhole_whole _) xM (Memref.isWhole_whole _) yM (Memref.isWhole_whole _) rM (Memref.isWhole_whole _) cc0_scratch3 cc0_scratch4 c h k acc) fun _ => sendInv m K c 0 16 (k.val + 1) := by
  have hk : k.val < 31 := k.isLt.trans_eq trips2
  unfold k0_t2_body
  by_cases h3 : k0_cond3 c k = 1#1
  · have hp := (cond3_iff c k).mp h3
    rw [dif_pos h3]
    simp only [Prog.lift, Prog.bind_op, Prog.bind_ret, Prog.pure_eq_ret]
    iintro H
    ihave H := (send_open m K c hk ⟨Nat.zero_le _, hp⟩) $$ H
    icases H with ⟨%f, %W, Hin, Hout⟩
    iapply (wp_send_peer m K c (dev2_eq c k _) (peer_ne c hk) (slotOf_eq yM (k0_off5_eq c k) _ _) (slotOf_eq rM (k0_off4_eq c) _ _)
      (sendSem_eq (k0_off2_eq c k) _) (recvSem_eq (k0_off3_eq c) _) f _ W) $$ Hin
    iintro H
    rw [wp_ret]; imodintro
    iapply Hout; iexact H
  · have hp : ¬ (0 ≤ (peer c k.val).val ∧ (peer c k.val).val < 16) := fun h' => h3 ((cond3_iff c k).mpr h'.2)
    rw [dif_neg h3]
    simp only [Prog.bind_ret, Prog.pure_eq_ret]
    rw [wp_ret]
    exact (send_skip m K c hp).trans fupd_intro

/-- One trip of the later transfer loop. -/
theorem send3_step (h : k0_cond4 i = 1#1) (k : Fin k0_t3_loop.trips) (acc : Unit) :
    sendInv m K c (8 * (i 0).val) (8 * ((i 0).val + 1)) k.val
      ⊢ wp frame (wpE (defs₀ (F := F)) 𝒱₀ (c : Thread nD τ) none) Set.univ (k0_t3_body (F := F) i arg1 harg1 arg2 harg2 oM (Memref.isWhole_whole _) xM (Memref.isWhole_whole _) yM (Memref.isWhole_whole _) rM (Memref.isWhole_whole _) cc0_scratch3 cc0_scratch4 c h k acc) fun _ => sendInv m K c (8 * (i 0).val) (8 * ((i 0).val + 1)) (k.val + 1) := by
  have hk : k.val < 31 := k.isLt.trans_eq trips3
  unfold k0_t3_body
  by_cases h5 : k0_cond5 i c k = 1#1
  · have hp := (cond5_iff i c k).mp h5
    rw [dif_pos h5]
    simp only [Prog.lift, Prog.bind_op, Prog.bind_ret, Prog.pure_eq_ret]
    iintro H
    ihave H := (send_open m K c hk hp) $$ H
    icases H with ⟨%f, %W, Hin, Hout⟩
    iapply (wp_send_peer m K c (dev3_eq c k _) (peer_ne c hk) (slotOf_eq yM (k0_off9_eq c k) _ _) (slotOf_eq rM (k0_off8_eq c) _ _)
      (sendSem_eq (k0_off6_eq c k) _) (recvSem_eq (k0_off7_eq c) _) f _ W) $$ Hin
    iintro H
    rw [wp_ret]; imodintro
    iapply Hout; iexact H
  · rw [dif_neg h5]
    simp only [Prog.bind_ret, Prog.pure_eq_ret]
    rw [wp_ret]
    exact (send_skip m K c (fun h' => h5 ((cond5_iff i c k).mpr h'))).trans fupd_intro

/-- Between two transfer loops: the slots for the first `n` devices sent. -/
def sentBelow (n : ℕ) : sProp 𝕄 :=
  iprop(owesAny c (owedRecv c (below c n)) ∗ split (below c n) (toSend m c n) (sent c))

theorem sendInv_zero {lo hi : ℕ} :
    iprop(records m K ∗ owesAny c (owedRecv c (below c lo)) ∗ split (below c lo) (toSend m c hi) (sent c)) ⊢ sendInv m K c lo hi 0 := by
  unfold sendInv; rw [partway_zero]
theorem sendInv_all {lo hi : ℕ} (h : lo ≤ hi) : sendInv m K c lo hi 31 ⊢ sentBelow m c hi := by
  unfold sendInv sentBelow; rw [partway_all c h]
  iintro ⟨-, H⟩; iexact H

/-- The first transfer loop. -/
theorem send2_loop (h : k0_cond2 i = 1#1) (hok) :
    iprop(records m K ∗ owesAny c (owedRecv c (below c 0)) ∗ split (below c 0) (toSend m c 16) (sent c))
      ⊢ wp frame (wpE (defs₀ (F := F)) 𝒱₀ (c : Thread nD τ) none) Set.univ (Scf.Loop.for k0_t2_loop hok ⟨⟩ (k0_t2_body (F := F) i arg1 harg1 arg2 harg2 oM (Memref.isWhole_whole _) xM (Memref.isWhole_whole _) yM (Memref.isWhole_whole _) rM (Memref.isWhole_whole _) cc0_scratch3 cc0_scratch4 c h)) fun _ => sentBelow m c 16 := by
  have h31 : sendInv m K c 0 16 k0_t2_loop.trips ⊢ sentBelow m c 16 := by rw [trips2]; exact sendInv_all m K c (by decide)
  iintro H
  iapply (Scf.wp_for _ _ _ _ _ _ _ _ _ (fun k _ => sendInv m K c 0 16 k) (fun k acc => send2_step m K c i arg1 harg1 arg2 harg2 h k acc))
  isplitl [H]; · iapply (sendInv_zero m K c); iexact H
  iintro %acc H
  iapply h31; iexact H

/-- The later transfer loop. -/
theorem send3_loop (h : k0_cond4 i = 1#1) (hok) :
    iprop(records m K ∗ owesAny c (owedRecv c (below c (8 * (i 0).val))) ∗ split (below c (8 * (i 0).val)) (toSend m c (8 * ((i 0).val + 1))) (sent c))
      ⊢ wp frame (wpE (defs₀ (F := F)) 𝒱₀ (c : Thread nD τ) none) Set.univ (Scf.Loop.for k0_t3_loop hok ⟨⟩ (k0_t3_body (F := F) i arg1 harg1 arg2 harg2 oM (Memref.isWhole_whole _) xM (Memref.isWhole_whole _) yM (Memref.isWhole_whole _) rM (Memref.isWhole_whole _) cc0_scratch3 cc0_scratch4 c h)) fun _ => sentBelow m c (8 * ((i 0).val + 1)) := by
  have h31 : sendInv m K c (8 * (i 0).val) (8 * ((i 0).val + 1)) k0_t3_loop.trips ⊢ sentBelow m c (8 * ((i 0).val + 1)) := by
    rw [trips3]; exact sendInv_all m K c (by omega)
  iintro H
  iapply (Scf.wp_for _ _ _ _ _ _ _ _ _ (fun k _ => sendInv m K c (8 * (i 0).val) (8 * ((i 0).val + 1)) k)
    (fun k acc => send3_step m K c i arg1 harg1 arg2 harg2 h k acc))
  isplitl [H]; · iapply (sendInv_zero m K c); iexact H
  iintro %acc H
  iapply h31; iexact H

/-! ## The departures -/

/-- Before trip `k` of the loop waiting for departures. -/
def leaveInv (k : ℕ) : sProp 𝕄 :=
  iprop(records m K ∗ owesAny c 0 ∗ split (upto c k) (toLeave c) (gone c))

/-- One departure. -/
theorem leave_step (h : k0_cond6 i = 1#1) (k : Fin k0_t5_loop.trips) (acc : Unit) :
    leaveInv m K c k.val ⊢ wp frame (wpE (defs₀ (F := F)) 𝒱₀ (c : Thread nD τ) none) Set.univ (k0_t5_body (F := F) i arg1 harg1 arg2 harg2 oM (Memref.isWhole_whole _) xM (Memref.isWhole_whole _) yM (Memref.isWhole_whole _) rM (Memref.isWhole_whole _) cc0_scratch3 cc0_scratch4 c h k acc) fun _ => leaveInv m K c (k.val + 1) := by
  have hk : k.val < 31 := k.isLt.trans_eq trips5
  unfold k0_t5_body
  simp only [Prog.lift, Prog.bind_op, Prog.bind_ret, Prog.pure_eq_ret]
  unfold leaveInv owesAny
  iintro ⟨#HR, ⟨%W, HO⟩, HS⟩
  ihave HS := (split_step (toLeave c) (gone c) (upto_before c hk) (upto_after c hk) (fun i hi => upto_else c hi)) $$ HS
  unfold toLeave gone
  icases HS with ⟨⟨Hat, Hc⟩, Hback⟩
  iapply (wp_wait_send m K c (peer_ne c hk) (sendSem_eq (k0_off18_eq c k) _) W) $$ [Hc HO Hat]
  · isplitr; · iexact HR
    isplitl [Hc]; · iexact Hc
    isplitl [HO] <;> iassumption
  iintro ⟨HO, Hz, Hy⟩
  rw [wp_ret]; imodintro
  isplitr; · iexact HR
  isplitl [HO]; · iexists _; iexact HO
  iapply Hback
  isplitl [Hy]; · iexists _; iexact Hy
  iexact Hz

/-- The whole loop: every slot back, every send cell closed. -/
theorem leave_loop (h : k0_cond6 i = 1#1) (hok) :
    iprop(records m K ∗ owesAny c 0 ∗ gone c c ∗ bigSep (Finset.univ.erase c) (toLeave (F := F) c))
      ⊢ wp frame (wpE (defs₀ (F := F)) 𝒱₀ (c : Thread nD τ) none) Set.univ (Scf.Loop.for k0_t5_loop hok ⟨⟩ (k0_t5_body (F := F) i arg1 harg1 arg2 harg2 oM (Memref.isWhole_whole _) xM (Memref.isWhole_whole _) yM (Memref.isWhole_whole _) rM (Memref.isWhole_whole _) cc0_scratch3 cc0_scratch4 c h))
          fun _ => iprop(owesAny c 0 ∗ bigSep Finset.univ (gone (F := F) c)) := by
  have h0 : iprop(records m K ∗ owesAny c 0 ∗ gone c c ∗ bigSep (Finset.univ.erase c) (toLeave (F := F) c)) ⊢ leaveInv m K c 0 := by
    unfold leaveInv
    rw [split_only c (upto_self c) (fun j hj => upto_zero c hj)]
  have h31 : leaveInv m K c k0_t5_loop.trips ⊢ iprop(owesAny c 0 ∗ bigSep Finset.univ (gone (F := F) c)) := by
    rw [trips5]
    unfold leaveInv
    rw [split_all (fun j => upto_all c j)]
    iintro ⟨-, H⟩; iexact H
  iintro H
  iapply (Scf.wp_for _ _ _ _ _ _ _ _ _ (fun k _ => leaveInv m K c k) (fun k acc => leave_step m K c i arg1 harg1 arg2 harg2 h k acc))
  isplitl [H]; · iapply h0; iexact H
  iintro %acc H
  iapply h31; iexact H

end Loops

end Cert.Exchange

end
-- ==== Proof.Gather.lean ====
/-
# Arrivals and the result

The result's rows 128 s to 128 s + 127 are written from device `s`'s slot: 64 rows from its left half, 64 from its right half.
-/
module

public import proofs.«01_k».proof.Proof.Loops

@[expose] public section

noncomputable section

namespace Cert.Exchange

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Writing a slot's two halves into the result -/

/-- Rows `o` to `o + 63` of the result. -/
@[reducible] def halfRect (o : ℕ) (ho : o + 64 ≤ 4096) : Rect S4096x64 :=
  Rect.unit (s := S4096x64) ![o, 0] S64x64.size (fun a => by
    match a with
    | 0 => show o + 64 ≤ 4096; exact ho
    | 1 => show 0 + 64 ≤ 64; omega)

omit [FloatOps F] in
/-- A store of 64 rows, read at one of them. -/
theorem store_half_in {o : ℕ} {ho : o + 64 ≤ 4096} (f : S4096x64.Idx → Elt F .f32) (w : S64x64.Idx → Elt F .f32) (x : S4096x64.Idx)
    (a : Fin 64) (hx : (x 0).val = o + a.val) : (oM.access (halfRect o ho)).write (Elt F) f w Finset.univ x = w (ix2 a (x 1)) := by
  have e : ∀ z : S4096x64.Idx, z = (oM.access (halfRect o ho)).emb (ix2 a (x 1)) →
      (oM.access (halfRect o ho)).write (Elt F) f w Finset.univ z = w (ix2 a (x 1)) := by
    rintro z rfl
    exact View.write_emb_of_mem (v := oM.access (halfRect o ho)) _ _ (Finset.mem_univ _)
  refine e x (funext fun b => Fin.ext ?_)
  match b with
  | 0 => show (x 0).val = o + 1 * a.val; omega
  | 1 => show (x 1).val = 0 + 1 * (x 1).val; omega

omit [FloatOps F] in
/-- A store of 64 rows, read elsewhere. -/
theorem store_half_out {o : ℕ} {ho : o + 64 ≤ 4096} (f : S4096x64.Idx → Elt F .f32) (w : S64x64.Idx → Elt F .f32) (x : S4096x64.Idx)
    (hx : (x 0).val < o ∨ o + 64 ≤ (x 0).val) : (oM.access (halfRect o ho)).write (Elt F) f w Finset.univ x = f x := by
  refine View.write_of_not_mem (v := oM.access (halfRect o ho)) _ _ _ fun hmem => ?_
  rw [View.setOn_univ] at hmem
  have h2 : x ∈ (halfRect o ho).set := ((View.set_slice_whole (sig := sig) cc0_stg2_0 (halfRect o ho)).le) hmem
  have h3 : o ≤ (x 0).val ∧ (x 0).val < o + 64 := Rect.mem_set_unit.mp h2 0
  omega

/-- What the result's buffer holds once the rows from device `s` are written. -/
def put (c s : Dev nD) (f f' : S4096x64.Idx → Elt F .f32) : Prop :=
  (∀ x, rowDev (x 0) = s → f' x = outC m c x) ∧ ∀ x, rowDev (x 0) ≠ s → f' x = f x

/-- Two stores of 64 rows, the two halves of device `s`'s slot, write the rows from `s`. -/
theorem put_both {c s : Dev nD} {ho : 128 * s.val + 64 ≤ 4096} {ho' : 128 * s.val + 64 + 64 ≤ 4096} (f : S4096x64.Idx → Elt F .f32) :
    put m c s f ((oM.access (halfRect (128 * s.val + 64) ho')).write (Elt F)
      ((oM.access (halfRect (128 * s.val) ho)).write (Elt F) f (k0_pay2 (gotC m c s)) Finset.univ) (k0_pay3 (gotC m c s)) Finset.univ) := by
  constructor
  · intro x hx
    have hx' : (x 0).val / 128 = s.val := congrArg Fin.val hx
    unfold outC
    rw [hx]
    by_cases h : (x 0).val % 128 < 64
    · rw [dif_pos h]
      exact (store_half_out _ _ _ (Or.inl (by omega))).trans (store_half_in _ _ _ ⟨(x 0).val % 128, h⟩ (by show _ = _ + (x 0).val % 128; omega))
    · rw [dif_neg h]
      exact store_half_in _ _ _ ⟨(x 0).val % 128 - 64, by omega⟩ (by show _ = _ + ((x 0).val % 128 - 64); omega)
  · intro x hx
    have hx' : ¬ (x 0).val / 128 = s.val := fun h => hx (Fin.ext h)
    exact (store_half_out _ _ _ (by omega)).trans (store_half_out _ _ _ (by omega))

/-- The result's staging buffer on device `c`. -/
def outPts (c : Dev nD) (f : S4096x64.Idx → Elt F .f32) : sProp 𝕄 := ((c : Thread nD τ).loc cc0_stg2_0) ↦{fullShare} f

/-- The four operations that write a slot's two halves into the result. -/
theorem wp_put (c s : Dev nD) {f : S4096x64.Idx → Elt F .f32} {off₁ off₂ : Fin 2 → ℕ} (h₁ : off₁ = ![128 * s.val, 0]) (h₂ : off₂ = ![128 * s.val + 64, 0])
    {p₁ p₁' p₂ p₂'} {hl₁ hx₁ hm₁ hl₂ hx₂ hm₂} {w₁ w₂ : S64x64.Idx → Elt F .f32} (hw₁ : w₁ = k0_pay2 (gotC m c s)) (hw₂ : w₂ = k0_pay3 (gotC m c s))
    {α : Type} {Q : α → sProp 𝕄} {k : PUnit → Prog (TpuEff nD τ sig (Elt F) Λ₀ .tc) α} :
    outPts c f ⊢ iprop((∀ f', ⌜put m c s f f'⌝ -∗ outPts c f' -∗ wp frame (wpE (defs₀ (F := F)) 𝒱₀ (c : Thread nD τ) none) Set.univ (k ⟨⟩) Q)
      -∗ wp frame (wpE (defs₀ (F := F)) 𝒱₀ (c : Thread nD τ) none) Set.univ (.op (.load oM (Rect.unit (s := S4096x64) off₁ S64x64.size p₁').toLoadRect hl₁) fun _ =>
          .op (.store oM (Rect.unit (s := S4096x64) off₁ S64x64.size p₁) w₁ Finset.univ hx₁ hm₁) fun _ =>
          .op (.load oM (Rect.unit (s := S4096x64) off₂ S64x64.size p₂').toLoadRect hl₂) fun _ =>
          .op (.store oM (Rect.unit (s := S4096x64) off₂ S64x64.size p₂) w₂ Finset.univ hx₂ hm₂) k) Q) := by
  subst h₁ h₂ hw₁ hw₂
  have hs : s.val < 32 := s.isLt
  have ho : 128 * s.val + 64 ≤ 4096 := by omega
  have ho' : 128 * s.val + 64 + 64 ≤ 4096 := by omega
  unfold outPts
  iintro HO Hk
  iapply (wp_load 𝒱₀ (c : Thread nD τ) none Set.univ (m := oM) (S := Finset.univ) (Finset.subset_univ _)) $$ HO
  iintro HO
  iapply (wp_store 𝒱₀ (c : Thread nD τ) none Set.univ (m := oM) (r := halfRect (128 * s.val) ho) (Mk := Finset.univ) (S := Finset.univ) (Finset.subset_univ _)) $$ HO
  iintro HO
  iapply (wp_load 𝒱₀ (c : Thread nD τ) none Set.univ (m := oM) (S := Finset.univ) (Finset.subset_univ _)) $$ HO
  iintro HO
  iapply (wp_store 𝒱₀ (c : Thread nD τ) none Set.univ (m := oM) (r := halfRect (128 * s.val + 64) ho') (Mk := Finset.univ) (S := Finset.univ) (Finset.subset_univ _)) $$ HO
  iintro HO
  have hp := put_both m (c := c) (s := s) (ho := ho) (ho' := ho') f
  iapply Hk $$ %((oM.access (halfRect (128 * s.val + 64) ho')).write (Elt F)
      ((oM.access (halfRect (128 * s.val) ho)).write (Elt F) f (k0_pay2 (gotC m c s)) Finset.univ) (k0_pay3 (gotC m c s)) Finset.univ) %hp
  iexact HO

/-! ## Reading a slot -/

/-- A load of slot `s` of the receive buffer reads device `s`'s slot for `c`. -/
theorem read_got {c s : Dev nD} : rM.view.readAt (Elt F) (sRect s).toLoadRect (rC m c) = gotC m c s := by
  funext z
  have e : rM.view.readAt (Elt F) (sRect s).toLoadRect (rC m c) z = rC m c ((sRect s).emb z) := rfl
  rw [e, sRect_emb]; rfl
/-- A load of slot `c` of `c`'s own send buffer reads its own slot. -/
theorem read_own {c : Dev nD} : yM.view.readAt (Elt F) (sRect c).toLoadRect (yC m c) = gotC m c c := by
  funext z
  have e : yM.view.readAt (Elt F) (sRect c).toLoadRect (yC m c) z = yC m c ((sRect c).emb z) := rfl
  rw [e, sRect_emb]; rfl

omit [FloatOps F] in
theorem rload_slot (j : Dev nD) : rM.view.setOn (sRect j).set ⊆ slotSet j := by
  rw [sRect_set]
  intro x hx
  obtain ⟨y, hy, rfl⟩ := Finset.mem_map.mp hx
  exact hy

/-- A load of a landed slot. -/
theorem wp_load_got (c s : Dev nD) {off : Fin 3 → ℕ} (hoff : off = ![s.val, 0, 0]) {p hl}
    {α : Type} {Q : α → sProp 𝕄} {k : (S1x64x128.Idx → Elt F .bf16) → Prog (TpuEff nD τ sig (Elt F) Λ₀ .tc) α} :
    rPts c s (rC m c) ⊢ iprop((rPts c s (rC m c) -∗ wp frame (wpE (defs₀ (F := F)) 𝒱₀ (c : Thread nD τ) none) Set.univ (k (gotC m c s)) Q)
      -∗ wp frame (wpE (defs₀ (F := F)) 𝒱₀ (c : Thread nD τ) none) Set.univ (.op (.load rM (Rect.unit (s := S32x64x128) off S1x64x128.size p).toLoadRect hl) k) Q) := by
  subst hoff
  rw [← read_got m]
  unfold rPts
  iintro Hr Hk
  iapply (wp_load 𝒱₀ (c : Thread nD τ) none Set.univ (m := rM) (S := slotSet s) (rload_slot s)) $$ Hr
  iintro Hr
  iapply Hk; iexact Hr
/-- A load of `c`'s own slot. -/
theorem wp_load_own (c : Dev nD) {off : Fin 3 → ℕ} (hoff : off = ![c.val, 0, 0]) {p hl}
    {α : Type} {Q : α → sProp 𝕄} {k : (S1x64x128.Idx → Elt F .bf16) → Prog (TpuEff nD τ sig (Elt F) Λ₀ .tc) α} :
    yPts c c (yC m c) ⊢ iprop((yPts c c (yC m c) -∗ wp frame (wpE (defs₀ (F := F)) 𝒱₀ (c : Thread nD τ) none) Set.univ (k (gotC m c c)) Q)
      -∗ wp frame (wpE (defs₀ (F := F)) 𝒱₀ (c : Thread nD τ) none) Set.univ (.op (.load yM (Rect.unit (s := S32x64x128) off S1x64x128.size p).toLoadRect hl) k) Q) := by
  subst hoff
  rw [← read_own m]
  unfold yPts
  iintro Hr Hk
  iapply (wp_load 𝒱₀ (c : Thread nD τ) none Set.univ (m := yM) (S := slotSet c) (hload_slot c)) $$ Hr
  iintro Hr
  iapply Hk; iexact Hr

/-! ## The arrivals -/

section Recv

variable (K : Dev nD × CK → ℕ) (c : Dev nD) (i : grid0.Coords)
  (arg1 : Memref sig .tc .vmem S128x4096 .bf16) (harg1 : arg1.IsWhole) (arg2 : Memref sig .tc .vmem S4096x512 .bf16) (harg2 : arg2.IsWhole)

/-- The rows from the first `k` places after `c`, and `c`'s own, are written. -/
def written (k : ℕ) (f : S4096x64.Idx → Elt F .f32) : Prop := ∀ x, dist c (rowDev (x 0)) ≤ k → f x = outC m c x

theorem written_zero {f f' : S4096x64.Idx → Elt F .f32} (h : put m c c f f') : written m c 0 f' :=
  fun x hx => h.1 x (dist_eq_zero.mp (Nat.le_zero.mp hx))
theorem written_succ {k : ℕ} {f f' : S4096x64.Idx → Elt F .f32} (h : put m c (peer c k) f f') (hf : written m c k f) : written m c (k + 1) f' := fun x hx => by
  by_cases hp : rowDev (x 0) = peer c k
  · exact h.1 x hp
  · exact (h.2 x hp).trans (hf x ((dist_le_succ_iff hp).mp hx))
theorem written_all {f : S4096x64.Idx → Elt F .f32} (h : written m c 31 f) : f = outC m c :=
  funext fun x => h x (by have := dist_lt c (rowDev (x 0)); omega)

/-- Before trip `k` of the loop receiving the slots. -/
def recvInv (k : ℕ) : sProp 𝕄 :=
  iprop(records m K ∗ owesAny c 0 ∗ split (upto c k) (toRecv c) (recvd c) ∗ ∃ f, ⌜written m c k f⌝ ∗ outPts c f)

/-- One arrival. -/
theorem recv_step (h : k0_cond6 i = 1#1) (k : Fin k0_t4_loop.trips) (acc : Unit) :
    recvInv m K c k.val ⊢ wp frame (wpE (defs₀ (F := F)) 𝒱₀ (c : Thread nD τ) none) Set.univ (k0_t4_body (F := F) i arg1 harg1 arg2 harg2 oM (Memref.isWhole_whole _) xM (Memref.isWhole_whole _) yM (Memref.isWhole_whole _) rM (Memref.isWhole_whole _) cc0_scratch3 cc0_scratch4 c h k acc) fun _ => recvInv m K c (k.val + 1) := by
  have hk : k.val < 31 := k.isLt.trans_eq trips4
  unfold k0_t4_body
  simp only [Prog.lift, Prog.bind_op, Prog.bind_ret, Prog.pure_eq_ret]
  unfold recvInv owesAny
  iintro ⟨#HR, ⟨%W, HO⟩, HS, ⟨%f, %hf, Hout⟩⟩
  ihave HS := (split_step (toRecv c) (recvd c) (upto_before c hk) (upto_after c hk) (fun i hi => upto_else c hi)) $$ HS
  unfold toRecv recvd
  icases HS with ⟨⟨Hat, Hc⟩, Hback⟩
  iapply (wp_wait_recv m K c (peer_ne c hk) (recvSem_eq (k0_off13_eq c k) _) W) $$ [Hc HO Hat]
  · isplitr; · iexact HR
    isplitl [Hc]; · iexact Hc
    isplitl [HO] <;> iassumption
  iintro ⟨HO, Hz, Hr⟩
  iapply (wp_load_got m c (peer c k.val) (k0_off15_eq c k)) $$ Hr
  iintro Hr
  iapply (wp_put m c (peer c k.val) (k0_off16_eq c k) (k0_off17_eq c k) rfl rfl) $$ Hout
  iintro %f' %hp Hout
  rw [wp_ret]; imodintro
  isplitr; · iexact HR
  isplitl [HO]; · iexists _; iexact HO
  isplitl [Hback Hr Hz]
  · iapply Hback
    isplitl [Hr]; · iexists _; iexact Hr
    iexact Hz
  iexists f'
  isplitr; · ipureintro; exact written_succ m c hp hf
  iexact Hout

/-- The whole loop: every slot received, every receive cell closed, the result whole. -/
theorem recv_loop (h : k0_cond6 i = 1#1) (hok) :
    iprop(records m K ∗ owesAny c 0 ∗ (recvd c c ∗ bigSep (Finset.univ.erase c) (toRecv (F := F) c)) ∗ ∃ f, ⌜written m c 0 f⌝ ∗ outPts c f)
      ⊢ wp frame (wpE (defs₀ (F := F)) 𝒱₀ (c : Thread nD τ) none) Set.univ (Scf.Loop.for k0_t4_loop hok ⟨⟩ (k0_t4_body (F := F) i arg1 harg1 arg2 harg2 oM (Memref.isWhole_whole _) xM (Memref.isWhole_whole _) yM (Memref.isWhole_whole _) rM (Memref.isWhole_whole _) cc0_scratch3 cc0_scratch4 c h))
          fun _ => iprop(owesAny c 0 ∗ bigSep Finset.univ (recvd (F := F) c) ∗ outPts c (outC m c)) := by
  have h0 : iprop(records m K ∗ owesAny c 0 ∗ (recvd c c ∗ bigSep (Finset.univ.erase c) (toRecv (F := F) c)) ∗ ∃ f, ⌜written m c 0 f⌝ ∗ outPts c f)
      ⊢ recvInv m K c 0 := by
    unfold recvInv
    rw [split_only c (upto_self c) (fun j hj => upto_zero c hj)]
  have h31 : recvInv m K c k0_t4_loop.trips ⊢ iprop(owesAny c 0 ∗ bigSep Finset.univ (recvd (F := F) c) ∗ outPts c (outC m c)) := by
    rw [trips4]
    unfold recvInv
    rw [split_all (fun j => upto_all c j)]
    iintro ⟨-, HO, HS, %f, %hf, Hout⟩
    rw [written_all m c hf]
    isplitl [HO]; · iexact HO
    isplitl [HS] <;> iassumption
  iintro H
  iapply (Scf.wp_for _ _ _ _ _ _ _ _ _ (fun k _ => recvInv m K c k) (fun k acc => recv_step m K c i arg1 harg1 arg2 harg2 h k acc))
  isplitl [H]; · iapply h0; iexact H
  iintro %acc H
  iapply h31; iexact H

end Recv

end Cert.Exchange

end
-- ==== Proof.Parts.lean ====
/-
# The parts of the kernel's body

Each grid point computes 512 columns, fills eight slots, and then, by its number, waits at the barrier, transfers and
receives. The parts are stated over what each leaves to the next.
-/
module

public import proofs.«01_k».proof.Proof.Gather

@[expose] public section

noncomputable section

namespace Cert.Exchange

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Slots being filled -/

section Fill
variable (c : Dev nD)

theorem ySlot_here (j : Dev nD) : ySlot m c j.val j = iprop(∃ f, yPts c j f) := if_neg (Nat.lt_irrefl _)
theorem ySlot_next (j : Dev nD) : ySlot m c (j.val + 1) j = yPts c j (yC m c) := if_pos (Nat.lt_succ_self _)
theorem ySlot_else {i j : Dev nD} (h : i ≠ j) : ySlot m c (j.val + 1) i = ySlot m c j.val i := by
  have hv : i.val ≠ j.val := fun e => h (Fin.ext e)
  unfold ySlot
  by_cases hlt : i.val < j.val
  · rw [if_pos hlt, if_pos (by omega)]
  · rw [if_neg hlt, if_neg (by omega)]

/-- Before any transfer: every slot at hand. -/
theorem fills_free (lo hi : ℕ) : Fills m c (fun w => bigSep Finset.univ (ySlot m c w)) lo hi := by
  intro j _ _
  show bigSep Finset.univ (ySlot m c j.val) ⊢ iprop((∃ f, yPts c j f) ∗ (yPts c j (yC m c) -∗ bigSep Finset.univ (ySlot m c (j.val + 1))))
  rw [bigSep_univ_split j, bigSep_univ_split j (Φ := ySlot m c (j.val + 1)), ySlot_here, ySlot_next,
    bigSep_congr (Ψ := ySlot m c j.val) (fun i hi => ySlot_else m c (Finset.ne_of_mem_erase hi))]
  show iprop((∃ f, yPts c j f) ∗ bigSep (Finset.univ.erase j) (ySlot m c j.val)) ⊢
    iprop((∃ f, yPts c j f) ∗ (yPts c j (yC m c) -∗ (yPts c j (yC m c) ∗ bigSep (Finset.univ.erase j) (ySlot m c j.val))))
  iintro ⟨Hy, HR⟩
  isplitl [Hy]; · iexact Hy
  iintro Hy
  isplitl [Hy] <;> iassumption

/-- While transfers are out: the slots below `n` may be away, the others are at hand. -/
theorem fills_sending (n hi : ℕ) : Fills m c (fun w => split (below c n) (toSend m c w) (sent c)) n hi := by
  intro j hlo _
  have hj : below c n j = false := decide_eq_false fun h => by omega
  show split (below c n) (toSend m c j.val) (sent c) ⊢ iprop((∃ f, yPts c j f) ∗ (yPts c j (yC m c) -∗ split (below c n) (toSend m c (j.val + 1)) (sent c)))
  have h := split_at (S := below c n) (A := toSend m c j.val) (B := sent c) (S' := below c n) (A' := toSend m c (j.val + 1)) (B' := sent c) j
    (fun i hi => by unfold toSend; rw [ySlot_else m c hi])
  rw [hj, if_neg Bool.false_ne_true, if_neg Bool.false_ne_true] at h
  refine h.trans ?_
  unfold toSend
  rw [ySlot_here, ySlot_next]
  iintro ⟨⟨Hy, HT⟩, Hback⟩
  isplitl [Hy]; · iexact Hy
  iintro Hy
  iapply Hback
  isplitl [Hy] <;> iassumption

/-- The slot that the `r`-th store of grid point `t` writes. -/
def slotJ (t : Fin cfg0.N) (r : Fin 8) : Dev nD := ⟨8 * t.val + r.val, by
  have h : t.val < 4 := t.isLt.trans_eq N_0
  show _ < 32; omega⟩
theorem slab_at (t : Fin cfg0.N) (r : Fin 8) : slabC m c t r.val = slabC m c (pointOf (slotJ t r)) ((slotJ t r).val % 8) := by
  have h1 : pointOf (slotJ t r) = t := Fin.ext (by show (8 * t.val + r.val) / 8 = t.val; omega)
  have h2 : (slotJ t r).val % 8 = r.val := by show (8 * t.val + r.val) % 8 = r.val; omega
  rw [h1, h2]

/-- The `r`-th store of grid point `t`. -/
theorem wp_fill_at {H : ℕ → sProp 𝕄} {t : Fin cfg0.N} (hH : Fills m c H (8 * t.val) (8 * t.val + 8)) {i : grid0.Coords} (hi : (i 0).val = t.val) (r : Fin 8)
    {off : Fin 3 → ℕ} (hoff : off = k0_off1 i (BitVec.ofNat 32 r.val)) {p p' : ∀ a, off a + S1x64x128.size a ≤ S32x64x128.size a}
    {hl : yM.view.LoadsAt (Rect.unit (s := S32x64x128) off S1x64x128.size p').toLoadRect}
    {w : S1x64x128.Idx → Elt F .bf16} (hw : w = slabC m c t r.val)
    {hx : (yM.access (Rect.unit (s := S32x64x128) off S1x64x128.size p)).Stores Finset.univ} {hm}
    {α : Type} {Q : α → sProp 𝕄} {k : PUnit → Prog (TpuEff nD τ sig (Elt F) Λ₀ .tc) α} :
    H (8 * t.val + r.val) ⊢ iprop((H (8 * t.val + r.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.load yM (Rect.unit (s := S32x64x128) off S1x64x128.size p').toLoadRect hl) fun _ =>
              .op (.store yM (Rect.unit (s := S32x64x128) off S1x64x128.size p) w Finset.univ hx hm) k) Q) :=
  wp_fill m c hH (slotJ t r) (Nat.le_add_right _ _) (by show 8 * t.val + r.val < _; omega) (hoff.trans ((k0_off1_eq i r).trans (by rw [hi]; rfl)))
    (hw.trans (slab_at m c t r))

end Fill

/-! ## Whole buffers -/

/-- The zero offset. -/
theorem zero2 : (![0, 0] : Fin 2 → ℕ) = fun _ => 0 := by
  funext a
  match a with
  | 0 => rfl
  | 1 => rfl

omit [FloatOps F] in
/-- A load of a whole buffer a window lends reads what it holds. -/
theorem wp_load_all [FloatOps F] (c : Dev nD) {d : Fin 2 → ℕ} {e : EltTy} {A : Memref sig .tc .vmem ⟨2, d⟩ e} {X : Shape.Idx ⟨2, d⟩ → Elt F e} {p hl}
    {α : Type} {Q : α → sProp 𝕄} {k : (Shape.Idx ⟨2, d⟩ → Elt F e) → Prog (TpuEff nD τ sig (Elt F) Λ₀ .tc) α} :
    owns (c : Thread nD τ) A fullShare X ⊢ iprop((owns (c : Thread nD τ) A fullShare X -∗ wp frame (wpE (defs₀ (F := F)) 𝒱₀ (c : Thread nD τ) none) Set.univ (k X) Q)
      -∗ wp frame (wpE (defs₀ (F := F)) 𝒱₀ (c : Thread nD τ) none) Set.univ (.op (.load A (Rect.unit (s := ⟨2, d⟩) ![0, 0] d p).toLoadRect hl) k) Q) := by
  unfold owns
  iintro ⟨%f, %hf, H⟩ Hk
  iapply (wp_load 𝒱₀ (c : Thread nD τ) none Set.univ (m := A) (S := A.view.set) (View.setOn_subset_set A.view _)) $$ H
  iintro H
  have hr : A.view.readAt (Elt F) (Rect.unit (s := ⟨2, d⟩) ![0, 0] d p).toLoadRect f = X := by
    rw [← hf]
    funext z
    refine congrArg (A.view.read (Elt F) f) (?_ : (Rect.unit (s := ⟨2, d⟩) ![0, 0] d p).emb z = z)
    funext a
    apply Fin.ext
    match a with
    | 0 => show 0 + 1 * (z 0).val = (z 0).val; omega
    | 1 => show 0 + 1 * (z 1).val = (z 1).val; omega
  rw [hr]
  iapply Hk
  iexists f
  isplitr; · ipureintro; exact hf
  iexact H

/-- The kernel's copy of `x` on device `c`. -/
def xPts (c : Dev nD) (f : S128x4096.Idx → Elt F .bf16) : sProp 𝕄 := ((c : Thread nD τ).loc cc0_scratch0) ↦{fullShare} f

/-- A load of the copy of `x`. -/
theorem wp_load_x (c : Dev nD) {f : S128x4096.Idx → Elt F .bf16} {p hl}
    {α : Type} {Q : α → sProp 𝕄} {k : (S128x4096.Idx → Elt F .bf16) → Prog (TpuEff nD τ sig (Elt F) Λ₀ .tc) α} :
    xPts c f ⊢ iprop((xPts c f -∗ wp frame (wpE (defs₀ (F := F)) 𝒱₀ (c : Thread nD τ) none) Set.univ (k f) Q)
      -∗ wp frame (wpE (defs₀ (F := F)) 𝒱₀ (c : Thread nD τ) none) Set.univ (.op (.load xM (Rect.unit (s := S128x4096) ![0, 0] S128x4096.size p).toLoadRect hl) k) Q) := by
  have hr := Memref.readAt_unit_zero (Elt F) cc0_scratch0 (off := ![0, 0]) zero2 p f
  unfold xPts
  iintro H Hk
  iapply (wp_load 𝒱₀ (c : Thread nD τ) none Set.univ (m := xM) (S := Finset.univ) (Finset.subset_univ _)) $$ H
  iintro H
  ispecialize Hk $$ H
  iapply (Entails.of_eq (congrArg (fun v => wp frame (wpE (defs₀ (F := F)) 𝒱₀ (c : Thread nD τ) none) Set.univ (k v) Q) hr.symm))
  iexact Hk

/-- A store of the whole copy of `x`. -/
theorem wp_store_x (c : Dev nD) {f : S128x4096.Idx → Elt F .bf16} {w : S128x4096.Idx → Elt F .bf16} {p hx hm}
    {α : Type} {Q : α → sProp 𝕄} {k : PUnit → Prog (TpuEff nD τ sig (Elt F) Λ₀ .tc) α} :
    xPts c f ⊢ iprop((xPts c w -∗ wp frame (wpE (defs₀ (F := F)) 𝒱₀ (c : Thread nD τ) none) Set.univ (k ⟨⟩) Q)
      -∗ wp frame (wpE (defs₀ (F := F)) 𝒱₀ (c : Thread nD τ) none) Set.univ (.op (.store xM (Rect.unit (s := S128x4096) ![0, 0] S128x4096.size p) w Finset.univ hx hm) k) Q) := by
  have hr := Memref.write_access_unit_zero_univ (Elt F) cc0_scratch0 (off := ![0, 0]) zero2 p f w
  unfold xPts
  iintro H Hk
  iapply (wp_store 𝒱₀ (c : Thread nD τ) none Set.univ (m := xM) (r := Rect.unit (s := S128x4096) ![0, 0] S128x4096.size p) (Mk := Finset.univ) (S := Finset.univ) (Finset.subset_univ _)) $$ H
  iintro H
  iapply Hk
  iapply (Entails.of_eq (congrArg (fun v => (((c : Thread nD τ).loc cc0_scratch0) ↦{fullShare} v : sProp 𝕄)) hr))
  iexact H

/-! ## The parts of the body -/

section Parts

variable (K : Dev nD × CK → ℕ) (c : Dev nD) (i : grid0.Coords)
  (arg1 : Memref sig .tc .vmem S128x4096 .bf16) (harg1 : arg1.IsWhole) (arg2 : Memref sig .tc .vmem S4096x512 .bf16) (harg2 : arg2.IsWhole)

/-- What the first part hands on: the device, the barrier semaphore and the product. -/
def handed (t : Fin cfg0.N) (r : Σ' (arg0 : BitVec 32) (d0 : Dev nD) (v2 : BitVec 32) (v3 : Sems sig S_) (v24 : FVec F S128x512 .bf16), BitVec 32) : Prop :=
  ∃ a v b, r = ⟨a, c, v, SemArray.scalar (sig.barrier 0 rfl), prodC m c t, b⟩

/-- The first part at a later grid point. -/
theorem wp_part1_later {H : ℕ → sProp 𝕄} (t : Fin cfg0.N) (hH : Fills m c H (8 * t.val) (8 * t.val + 8)) (hi : (i 0).val = t.val) (ht : t.val ≠ 0) (B : sProp 𝕄) :
    iprop(B ∗ xPts c (xbC m c) ∗ owns (c : Thread nD τ) arg2 fullShare (wC m c t) ∗ H (8 * t.val))
      ⊢ wp frame (wpE (defs₀ (F := F)) 𝒱₀ (c : Thread nD τ) none) Set.univ (k0_part1 (F := F) i arg1 harg1 arg2 harg2 oM (Memref.isWhole_whole _) xM (Memref.isWhole_whole _) yM (Memref.isWhole_whole _) rM (Memref.isWhole_whole _) cc0_scratch3 cc0_scratch4) fun r => iprop(⌜handed m c t r⌝
          ∗ (B ∗ xPts c (xbC m c) ∗ owns (c : Thread nD τ) arg2 fullShare (wC m c t)) ∗ H (8 * t.val + 1)) := by
  have hc : ¬ k0_cond1 i = 1#1 := fun h => ht (hi ▸ (cond1_iff i).mp h)
  rw [k0_part1_eq_skeleton]
  unfold k0_part1_skel
  simp only [Prog.lift, Prog.bind_op, Prog.bind_ret, Prog.pure_eq_ret, wp_deviceId]
  rw [dif_neg hc]
  iintro ⟨HB, Hx, Hw, HH⟩
  iapply (wp_load_all c) $$ Hw
  iintro Hw
  iapply (wp_load_x c) $$ Hx
  iintro Hx
  iapply (wp_fill_at m c hH hi 0 rfl rfl) $$ HH
  iintro HH
  rw [wp_ret]; imodintro
  isplitr; · ipureintro; exact ⟨_, _, _, rfl⟩
  isplitl [HB Hx Hw]
  · isplitl [HB]; · iexact HB
    isplitl [Hx] <;> iassumption
  iexact HH

/-- The first part at the first grid point: the signals, and the copy of `x`. -/
theorem wp_part1_first {H : ℕ → sProp 𝕄} (t : Fin cfg0.N) (hH : Fills m c H (8 * t.val) (8 * t.val + 8)) (hi : (i 0).val = t.val) (ht : t.val = 0) (B : sProp 𝕄)
    (X : Vec F S128x4096 .bf16) (hX : k0_pay7 X = xbC m c) :
    iprop(records m K ∗ owesAny c (owedRecv c nobody + owedBar c nobody) ∗ bigSep Finset.univ (toSignal (F := F) c) ∗ (∃ f, xPts c f)
        ∗ owns (c : Thread nD τ) arg1 fullShare X ∗ B ∗ owns (c : Thread nD τ) arg2 fullShare (wC m c t) ∗ H (8 * t.val))
      ⊢ wp frame (wpE (defs₀ (F := F)) 𝒱₀ (c : Thread nD τ) none) Set.univ (k0_part1 (F := F) i arg1 harg1 arg2 harg2 oM (Memref.isWhole_whole _) xM (Memref.isWhole_whole _) yM (Memref.isWhole_whole _) rM (Memref.isWhole_whole _) cc0_scratch3 cc0_scratch4) fun r => iprop(⌜handed m c t r⌝
          ∗ (owesAny c (owedRecv c nobody) ∗ (∃ f, rPts c c f) ∗ xPts c (xbC m c) ∗ owns (c : Thread nD τ) arg1 fullShare X
            ∗ B ∗ owns (c : Thread nD τ) arg2 fullShare (wC m c t)) ∗ H (8 * t.val + 1)) := by
  have hc : k0_cond1 i = 1#1 := (cond1_iff i).mpr (hi.trans ht)
  rw [k0_part1_eq_skeleton]
  unfold k0_part1_skel
  simp only [Prog.lift, Prog.bind_op, Prog.bind_ret, Prog.pure_eq_ret, wp_deviceId]
  rw [dif_pos hc]
  iintro ⟨#HR, HO, HS, ⟨%f, Hx⟩, HX, HB, Hw, HH⟩
  iapply (wp_then (signal_loop m K c i arg1 harg1 arg2 harg2 hc _)) $$ [HO HS]
  · isplitr; · iexact HR
    isplitl [HO] <;> iassumption
  iintro %_ ⟨HO, Hr⟩
  simp only [Prog.lift, Prog.bind_op, Prog.bind_ret, Prog.pure_eq_ret]
  iapply (wp_load_all c) $$ HX
  iintro HX
  iapply (wp_load_x c) $$ Hx
  iintro Hx
  iapply (wp_store_x c) $$ Hx
  iintro Hx
  rw [hX]
  iapply (wp_load_all c) $$ Hw
  iintro Hw
  iapply (wp_load_x c) $$ Hx
  iintro Hx
  iapply (wp_fill_at m c hH hi 0 rfl rfl) $$ HH
  iintro HH
  rw [wp_ret]; imodintro
  isplitr; · ipureintro; exact ⟨_, _, _, rfl⟩
  isplitr [HH]
  · isplitl [HO]; · iexact HO
    isplitl [Hr]; · iexact Hr
    isplitl [Hx]; · iexact Hx
    isplitl [HX]; · iexact HX
    isplitl [HB] <;> iassumption
  iexact HH

/-- The second part: four more slots. -/
theorem wp_part2 {H : ℕ → sProp 𝕄} (t : Fin cfg0.N) (hH : Fills m c H (8 * t.val) (8 * t.val + 8)) (hi : (i 0).val = t.val) (a b : BitVec 32) :
    H (8 * t.val + 1) ⊢ wp frame (wpE (defs₀ (F := F)) 𝒱₀ (c : Thread nD τ) none) Set.univ (k0_part2 (F := F) i arg1 harg1 arg2 harg2 oM (Memref.isWhole_whole _) xM (Memref.isWhole_whole _) yM (Memref.isWhole_whole _) rM (Memref.isWhole_whole _) cc0_scratch3 cc0_scratch4 a (prodC m c t) b) fun _ => H (8 * t.val + 5) := by
  rw [k0_part2_eq_skeleton]
  unfold k0_part2_skel
  simp only [Prog.lift, Prog.bind_op, Prog.bind_ret, Prog.pure_eq_ret]
  iintro HH
  iapply (wp_fill_at m c hH hi 1 rfl rfl) $$ HH
  iintro HH
  iapply (wp_fill_at m c hH hi 2 rfl rfl) $$ HH
  iintro HH
  iapply (wp_fill_at m c hH hi 3 rfl rfl) $$ HH
  iintro HH
  iapply (wp_fill_at m c hH hi 4 rfl rfl) $$ HH
  iintro HH
  rw [wp_ret]; imodintro
  iexact HH

/-- The third part, from what the first leaves and what the transfers of the point do. -/
theorem wp_part3 {H : ℕ → sProp 𝕄} (t : Fin cfg0.N) (hH : Fills m c H (8 * t.val) (8 * t.val + 8)) (hi : (i 0).val = t.val) {A B C C' : sProp 𝕄}
    (h1 : A ⊢ wp frame (wpE (defs₀ (F := F)) 𝒱₀ (c : Thread nD τ) none) Set.univ (k0_part1 (F := F) i arg1 harg1 arg2 harg2 oM (Memref.isWhole_whole _) xM (Memref.isWhole_whole _) yM (Memref.isWhole_whole _) rM (Memref.isWhole_whole _) cc0_scratch3 cc0_scratch4) fun r => iprop(⌜handed m c t r⌝ ∗ B ∗ H (8 * t.val + 1)))
    (h2 : ∀ h : k0_cond2 i = 1#1, iprop(B ∗ H (8 * t.val + 8)) ⊢ wp frame (wpE (defs₀ (F := F)) 𝒱₀ (c : Thread nD τ) none) Set.univ (.op (.semWait (SemArray.scalar (sig.barrier 0 rfl) : Sems sig S_).sem (31#32 : BitVec 32).toInt) fun _ =>
        Scf.Loop.for k0_t2_loop (k0_t2_ok i h) ⟨⟩ (k0_t2_body (F := F) i arg1 harg1 arg2 harg2 oM (Memref.isWhole_whole _) xM (Memref.isWhole_whole _) yM (Memref.isWhole_whole _) rM (Memref.isWhole_whole _) cc0_scratch3 cc0_scratch4 c h)) fun _ => C)
    (h2' : ¬ k0_cond2 i = 1#1 → iprop(B ∗ H (8 * t.val + 8)) ⊢ C)
    (h4 : ∀ h : k0_cond4 i = 1#1, C ⊢ wp frame (wpE (defs₀ (F := F)) 𝒱₀ (c : Thread nD τ) none) Set.univ (Scf.Loop.for k0_t3_loop (k0_t3_ok i h) ⟨⟩ (k0_t3_body (F := F) i arg1 harg1 arg2 harg2 oM (Memref.isWhole_whole _) xM (Memref.isWhole_whole _) yM (Memref.isWhole_whole _) rM (Memref.isWhole_whole _) cc0_scratch3 cc0_scratch4 c h)) fun _ => C')
    (h4' : ¬ k0_cond4 i = 1#1 → C ⊢ C') :
    A ⊢ wp frame (wpE (defs₀ (F := F)) 𝒱₀ (c : Thread nD τ) none) Set.univ (k0_part3 (F := F) i arg1 harg1 arg2 harg2 oM (Memref.isWhole_whole _) xM (Memref.isWhole_whole _) yM (Memref.isWhole_whole _) rM (Memref.isWhole_whole _) cc0_scratch3 cc0_scratch4) fun r => iprop(⌜r.1 = c⌝ ∗ C') := by
  rw [k0_part3_eq_skeleton]
  unfold k0_part3_skel
  iintro HA
  iapply (wp_then h1) $$ HA
  iintro %r ⟨%hr, HB, HH⟩
  obtain ⟨a, v, b, rfl⟩ := hr
  iapply (wp_then (wp_part2 m c i arg1 harg1 arg2 harg2 t hH hi a b)) $$ HH
  iintro %_ HH
  simp only [Prog.lift, Prog.bind_op, Prog.bind_ret, Prog.pure_eq_ret]
  iapply (wp_fill_at m c hH hi 5 rfl rfl) $$ HH
  iintro HH
  iapply (wp_fill_at m c hH hi 6 rfl rfl) $$ HH
  iintro HH
  iapply (wp_fill_at m c hH hi 7 rfl rfl) $$ HH
  iintro HH
  have hrest : C ⊢ wp frame (wpE (defs₀ (F := F)) 𝒱₀ (c : Thread nD τ) none) Set.univ (if h : k0_cond4 i = 1#1 then do
        Scf.Loop.for k0_t3_loop (k0_t3_ok i h) ⟨⟩ (k0_t3_body (F := F) i arg1 harg1 arg2 harg2 oM (Memref.isWhole_whole _) xM (Memref.isWhole_whole _) yM (Memref.isWhole_whole _) rM (Memref.isWhole_whole _) cc0_scratch3 cc0_scratch4 c h)
        Prog.ret (⟨c, v⟩ : Σ' (d0 : Dev nD), BitVec 32)
      else Prog.ret ⟨c, v⟩) fun r => iprop(⌜r.1 = c⌝ ∗ C') := by
    by_cases hc4 : k0_cond4 i = 1#1
    · rw [dif_pos hc4]
      iintro HC
      iapply (wp_then (h4 hc4)) $$ HC
      iintro %_ HC
      rw [wp_ret]; imodintro
      isplitr; · ipureintro; rfl
      iexact HC
    · rw [dif_neg hc4, wp_ret]
      iintro HC
      imodintro
      isplitr; · ipureintro; rfl
      iapply (h4' hc4); iexact HC
  by_cases hc2 : k0_cond2 i = 1#1
  · rw [dif_pos hc2]
    simp only [semWaitWord, Prog.lift, Prog.bind_op, Prog.bind_ret]
    iapply (wp_then (h2 hc2)) $$ [HB HH]
    · isplitl [HB] <;> iassumption
    iintro %_ HC
    iapply hrest; iexact HC
  · rw [dif_neg hc2]
    iapply hrest
    iapply (h2' hc2)
    isplitl [HB] <;> iassumption

end Parts

end Cert.Exchange

end
-- ==== Proof.Grid.lean ====
/-
# The four grid points

What one device's body does at each of the four grid points, from what it holds before to what it holds after.
-/
module

public import proofs.«01_k».proof.Proof.Parts

@[expose] public section

noncomputable section

namespace Cert.Exchange

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families together -/

omit [FloatOps F] in
/-- Two families side by side. -/
theorem both {I : Type} [DecidableEq I] (s : Finset I) (A B : I → sProp 𝕄) : iprop(bigSep s A ∗ bigSep s B) ⊢ bigSep s fun i => iprop(A i ∗ B i) :=
  Entails.of_eq (bigSep_sep s A B).symm
omit [FloatOps F] in
theorem apart {I : Type} [DecidableEq I] (s : Finset I) (A B : I → sProp 𝕄) : (bigSep s fun i => iprop(A i ∗ B i)) ⊢ iprop(bigSep s A ∗ bigSep s B) :=
  Entails.of_eq (bigSep_sep s A B)
omit [FloatOps F] in
/-- One device's share and everybody else's. -/
theorem with_own (c : Dev nD) (A : Dev nD → sProp 𝕄) : iprop(A c ∗ bigSep (Finset.univ.erase c) A) ⊢ bigSep Finset.univ A :=
  Entails.of_eq (bigSep_univ_split c).symm
omit [FloatOps F] in
theorem take_own (c : Dev nD) (A : Dev nD → sProp 𝕄) : bigSep Finset.univ A ⊢ iprop(A c ∗ bigSep (Finset.univ.erase c) A) :=
  Entails.of_eq (bigSep_univ_split c)

section Points

variable (K : Dev nD × CK → ℕ) (c : Dev nD) (i : grid0.Coords)
  (arg1 : Memref sig .tc .vmem S128x4096 .bf16) (harg1 : arg1.IsWhole) (arg2 : Memref sig .tc .vmem S4096x512 .bf16) (harg2 : arg2.IsWhole)

/-- What the barrier wait needs. -/
def keep : sProp 𝕄 := iprop(atPos ER (barCell c) 0 ∅ 0 ∗ cred (tallyAt (barCell c) () 31))
/-- What the later waits need, apart from what the transfers give. -/
def arrivals : sProp 𝕄 :=
  iprop(bigSep Finset.univ (fun j => atPos ER (sendCell c j) 0 ∅ 0) ∗ bigSep Finset.univ (fun s => atPos ER (recvCell c s) 0 ∅ 0)
    ∗ bigSep (Finset.univ.erase c) fun s => cred (tallyAt (recvCell c s) () N))

/-- A body that ends with its transfers. -/
theorem wp_body_mid (hc : ¬ k0_cond6 i = 1#1) {A C : sProp 𝕄} (h3 : A ⊢ wp frame (wpE (defs₀ (F := F)) 𝒱₀ (c : Thread nD τ) none) Set.univ (k0_part3 (F := F) i arg1 harg1 arg2 harg2 oM (Memref.isWhole_whole _) xM (Memref.isWhole_whole _) yM (Memref.isWhole_whole _) rM (Memref.isWhole_whole _) cc0_scratch3 cc0_scratch4) fun r => iprop(⌜r.1 = c⌝ ∗ C)) :
    A ⊢ wp frame (wpE (defs₀ (F := F)) 𝒱₀ (c : Thread nD τ) none) Set.univ (cc0_body (F := F) i arg1 harg1 arg2 harg2 oM (Memref.isWhole_whole _) xM (Memref.isWhole_whole _) yM (Memref.isWhole_whole _) rM (Memref.isWhole_whole _) cc0_scratch3 cc0_scratch4) fun _ => C := by
  rw [cc0_body_eq_skeleton]
  unfold cc0_body_skel
  iintro HA
  iapply (wp_then h3) $$ HA
  iintro %r ⟨%hr, HC⟩
  obtain ⟨d, v⟩ := r
  dsimp only
  rw [dif_neg hc, Prog.pure_eq_ret, wp_ret]
  imodintro
  iexact HC

/-- The first grid point. -/
theorem wp_point0 (t : Fin cfg0.N) (ht : t.val = 0) (hi : (i 0).val = t.val) (X : Vec F S128x4096 .bf16) (hX : k0_pay7 X = xbC m c) (B : sProp 𝕄) :
    iprop(records m K ∗ owesAny c (owedRecv c nobody + owedBar c nobody) ∗ bigSep Finset.univ (toSignal (F := F) c) ∗ (∃ f, xPts c f)
        ∗ owns (c : Thread nD τ) arg1 fullShare X ∗ B ∗ owns (c : Thread nD τ) arg2 fullShare (wC m c t) ∗ bigSep Finset.univ (ySlot m c 0))
      ⊢ wp frame (wpE (defs₀ (F := F)) 𝒱₀ (c : Thread nD τ) none) Set.univ (cc0_body (F := F) i arg1 harg1 arg2 harg2 oM (Memref.isWhole_whole _) xM (Memref.isWhole_whole _) yM (Memref.isWhole_whole _) rM (Memref.isWhole_whole _) cc0_scratch3 cc0_scratch4) fun _ => iprop((owesAny c (owedRecv c nobody) ∗ (∃ f, rPts c c f) ∗ xPts c (xbC m c)
            ∗ owns (c : Thread nD τ) arg1 fullShare X ∗ B ∗ owns (c : Thread nD τ) arg2 fullShare (wC m c t)) ∗ bigSep Finset.univ (ySlot m c 8)) := by
  have h1 := wp_part1_first m K c i arg1 harg1 arg2 harg2 t (fills_free m c _ _) hi ht B X hX
  have e0 : 8 * t.val = 0 := by omega
  have e8 : 8 * t.val + 8 = 8 := by omega
  have h3 := wp_part3 m c i arg1 harg1 arg2 harg2 t (fills_free m c _ _) hi h1
    (C := iprop((owesAny c (owedRecv c nobody) ∗ (∃ f, rPts c c f) ∗ xPts c (xbC m c)
            ∗ owns (c : Thread nD τ) arg1 fullShare X ∗ B ∗ owns (c : Thread nD τ) arg2 fullShare (wC m c t)) ∗ bigSep Finset.univ (ySlot m c (8 * t.val + 8))))
    (fun h => absurd ((cond2_iff i).mp h) (by omega)) (fun _ => .rfl)
    (fun h => absurd ((cond4_iff i).mp h) (by omega)) (fun _ => .rfl)
  have := wp_body_mid c i arg1 harg1 arg2 harg2 (fun h => absurd ((cond6_iff i).mp h) (by omega)) h3
  rwa [e8, e0] at this

/-- The barrier wait, and what it opens: every slot's landing place. -/
theorem barrier_open :
    iprop((∃ f, rPts (F := F) c c f) ∗ (bigSep (Finset.univ.erase c) fun d => iprop(∃ f, rPts (F := F) d c f))
        ∗ bigSep Finset.univ (sendToks (F := F) c) ∗ bigSep Finset.univ (ySlot m c 16))
      ⊢ split (below c 0) (toSend m c 16) (sent c) := by
  rw [below_zero, split_none nobody_eq]
  iintro ⟨Hr, HR, HT, HY⟩
  ihave HR := (with_own c (fun d => iprop(∃ f, rPts (F := F) d c f))) $$ [Hr HR]
  · isplitl [Hr] <;> iassumption
  ihave HRT := (both Finset.univ (fun d => iprop(∃ f, rPts (F := F) d c f)) (sendToks c)) $$ [HR HT]
  · isplitl [HR] <;> iassumption
  iapply (both Finset.univ (ySlot m c 16) (fun d => iprop((∃ f, rPts (F := F) d c f) ∗ sendToks c d)))
  isplitl [HY] <;> iassumption

/-- The second grid point: the barrier, and the first sixteen transfers. -/
theorem wp_point1 (t : Fin cfg0.N) (ht : t.val = 1) (hi : (i 0).val = t.val) (B : sProp 𝕄) :
    iprop((records m K ∗ levAts L lv ∗ owesAny c (owedRecv c nobody) ∗ keep c ∗ (∃ f, rPts (F := F) c c f) ∗ bigSep Finset.univ (sendToks (F := F) c) ∗ B)
        ∗ xPts c (xbC m c) ∗ owns (c : Thread nD τ) arg2 fullShare (wC m c t) ∗ bigSep Finset.univ (ySlot m c 8))
      ⊢ wp frame (wpE (defs₀ (F := F)) 𝒱₀ (c : Thread nD τ) none) Set.univ (cc0_body (F := F) i arg1 harg1 arg2 harg2 oM (Memref.isWhole_whole _) xM (Memref.isWhole_whole _) yM (Memref.isWhole_whole _) rM (Memref.isWhole_whole _) cc0_scratch3 cc0_scratch4) fun _ => iprop(sentBelow m c 16 ∗ semVal (barCell c) 0 ∗ B
            ∗ xPts c (xbC m c) ∗ owns (c : Thread nD τ) arg2 fullShare (wC m c t)) := by
  have h1 := wp_part1_later m c i arg1 harg1 arg2 harg2 t (fills_free m c _ _) hi (by omega)
    (iprop(records m K ∗ levAts L lv ∗ owesAny c (owedRecv c nobody) ∗ keep c ∗ (∃ f, rPts (F := F) c c f) ∗ bigSep Finset.univ (sendToks (F := F) c) ∗ B))
  have e8 : 8 * t.val = 8 := by omega
  have e16 : 8 * t.val + 8 = 16 := by omega
  have h3 := wp_part3 m c i arg1 harg1 arg2 harg2 t (fills_free m c _ _) hi h1
    (C := iprop(sentBelow m c 16 ∗ semVal (barCell c) 0 ∗ B ∗ xPts c (xbC m c) ∗ owns (c : Thread nD τ) arg2 fullShare (wC m c t)))
    (fun h => by
      show iprop(_ ∗ bigSep Finset.univ (ySlot m c (8 * t.val + 8))) ⊢ _
      rw [e16]
      unfold owesAny keep
      iintro ⟨⟨⟨#HR, Hlev, ⟨%W, HO⟩, ⟨Hat, Hcr⟩, Hr, HT, HB⟩, Hx, Hw⟩, HY⟩
      iapply (wp_wait_bar m K c rfl nobody W) $$ [Hlev HO Hat Hcr]
      · isplitr; · iexact HR
        isplitl [Hlev]; · iexact Hlev
        isplitl [Hcr]; · iexact Hcr
        isplitl [HO] <;> iassumption
      iintro ⟨HO, Hz, HRs⟩
      ihave HS := (barrier_open m c) $$ [Hr HRs HT HY]
      · isplitl [Hr]; · iexact Hr
        isplitl [HRs]; · iexact HRs
        isplitl [HT] <;> iassumption
      iapply (wp_wand _ _ _ (Q := fun _ => sentBelow m c 16)) $$ [HO HS]
      · iapply (send2_loop m K c i arg1 harg1 arg2 harg2 h _)
        isplitr; · iexact HR
        isplitl [HO]
        · unfold owesAny; iexists _
          rw [below_zero]; iexact HO
        iexact HS
      iintro %_ HS
      isplitl [HS]; · iexact HS
      isplitl [Hz]; · iexact Hz
      isplitl [HB]; · iexact HB
      isplitl [Hx] <;> iassumption)
    (fun h => absurd ((cond2_iff i).mpr (by omega)) h)
    (fun h => absurd ((cond4_iff i).mp h) (by omega)) (fun _ => .rfl)
  have := wp_body_mid c i arg1 harg1 arg2 harg2 (fun h => absurd ((cond6_iff i).mp h) (by omega)) h3
  rwa [e8] at this

/-- The third part at a later grid point: eight more slots, eight more transfers. -/
theorem wp_part3_later (t : Fin cfg0.N) (ht : 1 < t.val) (hi : (i 0).val = t.val) (B : sProp 𝕄) :
    iprop((records m K ∗ owesAny c (owedRecv c (below c (8 * t.val))) ∗ B)
        ∗ xPts c (xbC m c) ∗ owns (c : Thread nD τ) arg2 fullShare (wC m c t) ∗ split (below c (8 * t.val)) (toSend m c (8 * t.val)) (sent c))
      ⊢ wp frame (wpE (defs₀ (F := F)) 𝒱₀ (c : Thread nD τ) none) Set.univ (k0_part3 (F := F) i arg1 harg1 arg2 harg2 oM (Memref.isWhole_whole _) xM (Memref.isWhole_whole _) yM (Memref.isWhole_whole _) rM (Memref.isWhole_whole _) cc0_scratch3 cc0_scratch4) fun r => iprop(⌜r.1 = c⌝ ∗ sentBelow m c (8 * (t.val + 1)) ∗ B
            ∗ xPts c (xbC m c) ∗ owns (c : Thread nD τ) arg2 fullShare (wC m c t)) := by
  have h1 := wp_part1_later m c i arg1 harg1 arg2 harg2 t (fills_sending m c (8 * t.val) (8 * t.val + 8)) hi (by omega)
    (iprop(records m K ∗ owesAny c (owedRecv c (below c (8 * t.val))) ∗ B))
  have e8 : 8 * t.val + 8 = 8 * (t.val + 1) := by omega
  refine wp_part3 m c i arg1 harg1 arg2 harg2 t (fills_sending m c (8 * t.val) (8 * t.val + 8)) hi h1
    (fun h => absurd ((cond2_iff i).mp h) (by omega)) (fun _ => .rfl)
    (fun h => ?_) (fun h => absurd ((cond4_iff i).mpr (by omega)) h)
  have hl := send3_loop m K c i arg1 harg1 arg2 harg2 h (k0_t3_ok i h)
  rw [hi] at hl
  show iprop(_ ∗ split (below c (8 * t.val)) (toSend m c (8 * t.val + 8)) (sent c)) ⊢ _
  rw [e8]
  iintro ⟨⟨⟨#HR, HO, HB⟩, Hx, Hw⟩, HS⟩
  iapply (wp_wand _ _ _ (Q := fun _ => sentBelow m c (8 * (t.val + 1)))) $$ [HO HS]
  · iapply hl
    isplitr; · iexact HR
    isplitl [HO] <;> iassumption
  iintro %_ HS
  isplitl [HS]; · iexact HS
  isplitl [HB]; · iexact HB
  isplitl [Hx] <;> iassumption

/-- The third grid point. -/
theorem wp_point2 (t : Fin cfg0.N) (ht : t.val = 2) (hi : (i 0).val = t.val) (B : sProp 𝕄) :
    iprop((records m K ∗ owesAny c (owedRecv c (below c 16)) ∗ B)
        ∗ xPts c (xbC m c) ∗ owns (c : Thread nD τ) arg2 fullShare (wC m c t) ∗ split (below c 16) (toSend m c 16) (sent c))
      ⊢ wp frame (wpE (defs₀ (F := F)) 𝒱₀ (c : Thread nD τ) none) Set.univ (cc0_body (F := F) i arg1 harg1 arg2 harg2 oM (Memref.isWhole_whole _) xM (Memref.isWhole_whole _) yM (Memref.isWhole_whole _) rM (Memref.isWhole_whole _) cc0_scratch3 cc0_scratch4) fun _ => iprop(sentBelow m c 24 ∗ B
            ∗ xPts c (xbC m c) ∗ owns (c : Thread nD τ) arg2 fullShare (wC m c t)) := by
  have h := wp_body_mid c i arg1 harg1 arg2 harg2 (fun h => absurd ((cond6_iff i).mp h) (by omega))
    (wp_part3_later m K c i arg1 harg1 arg2 harg2 t (by omega) hi B)
  rwa [show 8 * t.val = 16 by omega, show 8 * (t.val + 1) = 24 by omega] at h

/-- All transfers made: what is left of them. -/
theorem sent_all : sentBelow m c 32 ⊢ iprop(owesAny c 0 ∗ yPts c c (yC m c) ∗ (∃ f, rPts (F := F) c c f) ∗ bigSep (Finset.univ.erase c) (sent (F := F) c)) := by
  have hz : owedRecv c (below c 32) = 0 := owing_done fun j hj => by
    by_cases hjc : j = c
    · exact if_pos hjc
    · rw [below_all c hjc] at hj; exact absurd hj (by decide)
  unfold sentBelow
  rw [hz, split_but c (below_self c 32) (fun j hj => below_all c hj)]
  unfold toSend ySlot
  rw [if_pos (show c.val < 32 from c.isLt)]
  iintro ⟨HO, ⟨Hy, Hr, -⟩, HS⟩
  isplitl [HO]; · iexact HO
  isplitl [Hy]; · iexact Hy
  isplitl [Hr] <;> iassumption

/-- The last grid point: the last transfers, every arrival and every departure. -/
theorem wp_point3 (t : Fin cfg0.N) (ht : t.val = 3) (hi : (i 0).val = t.val) (B : sProp 𝕄) (f₀ : S4096x64.Idx → Elt F .f32) :
    iprop((records m K ∗ owesAny c (owedRecv c (below c 24)) ∗ (records m K ∗ arrivals c ∗ outPts c f₀ ∗ B))
        ∗ xPts c (xbC m c) ∗ owns (c : Thread nD τ) arg2 fullShare (wC m c t) ∗ split (below c 24) (toSend m c 24) (sent c))
      ⊢ wp frame (wpE (defs₀ (F := F)) 𝒱₀ (c : Thread nD τ) none) Set.univ (cc0_body (F := F) i arg1 harg1 arg2 harg2 oM (Memref.isWhole_whole _) xM (Memref.isWhole_whole _) yM (Memref.isWhole_whole _) rM (Memref.isWhole_whole _) cc0_scratch3 cc0_scratch4) fun _ => iprop(owesAny c 0 ∗ bigSep Finset.univ (gone (F := F) c) ∗ bigSep Finset.univ (recvd (F := F) c)
            ∗ outPts c (outC m c) ∗ B ∗ xPts c (xbC m c) ∗ owns (c : Thread nD τ) arg2 fullShare (wC m c t)) := by
  have h3 := wp_part3_later m K c i arg1 harg1 arg2 harg2 t (by omega) hi (iprop(records m K ∗ arrivals c ∗ outPts c f₀ ∗ B))
  rw [show 8 * t.val = 24 by omega, show 8 * (t.val + 1) = 32 by omega] at h3
  have hc : k0_cond6 i = 1#1 := (cond6_iff i).mpr (by omega)
  rw [cc0_body_eq_skeleton]
  unfold cc0_body_skel
  iintro HA
  iapply (wp_then h3) $$ HA
  iintro %r ⟨%hr, HS, ⟨#HR, HA, Hout, HB⟩, Hx, Hw⟩
  obtain ⟨d, v⟩ := r
  dsimp only at hr
  subst hr
  dsimp only
  rw [dif_pos hc]
  simp only [Prog.lift, Prog.bind_op, Prog.bind_ret, Prog.pure_eq_ret]
  ihave HS := (sent_all m d) $$ HS
  icases HS with ⟨HO, Hy, Hr, HS⟩
  iapply (wp_load_own m d (k0_off10_eq d)) $$ Hy
  iintro Hy
  iapply (wp_put m d d (k0_off11_eq d) (k0_off12_eq d) rfl rfl) $$ Hout
  iintro %f' %hp Hout
  unfold arrivals
  icases HA with ⟨Has, Har, Hcr⟩
  ihave Has := (take_own d (fun j => atPos ER (sendCell d j) 0 ∅ 0)) $$ Has
  icases Has with ⟨Hs0, Has⟩
  ihave Har := (take_own d (fun s => atPos ER (recvCell d s) 0 ∅ 0)) $$ Har
  icases Har with ⟨Hr0, Har⟩
  ihave Hz := (close_recv_self m K d) $$ [Hr0]
  · isplitr; · iexact HR
    iexact Hr0
  imod Hz with Hz
  ihave Hzs := (close_send_self m K d) $$ [Hs0]
  · isplitr; · iexact HR
    iexact Hs0
  imod Hzs with Hzs
  iapply (wp_then (recv_loop m K d i arg1 harg1 arg2 harg2 hc _)) $$ [HO Hr Hz Har Hcr Hout]
  · isplitr; · iexact HR
    isplitl [HO]; · iexact HO
    isplitr [Hout]
    · isplitl [Hr Hz]
      · unfold recvd
        isplitl [Hr] <;> iassumption
      iapply (both (Finset.univ.erase d) (fun s => atPos ER (recvCell d s) 0 ∅ 0) (fun s => cred (tallyAt (recvCell d s) () N)))
      isplitl [Har] <;> iassumption
    iexists f'
    isplitr; · ipureintro; exact written_zero m d hp
    iexact Hout
  iintro %_ ⟨HO, HRs, Hout⟩
  iapply (wp_then (leave_loop m K d i arg1 harg1 arg2 harg2 hc _)) $$ [HO Hy Hzs Has HS]
  · isplitr; · iexact HR
    isplitl [HO]; · iexact HO
    isplitl [Hy Hzs]
    · unfold gone
      isplitl [Hy]; · iexists _; iexact Hy
      iexact Hzs
    iapply (both (Finset.univ.erase d) (fun j => atPos ER (sendCell d j) 0 ∅ 0) (sent d))
    isplitl [Has] <;> iassumption
  iintro %_ ⟨HO, HGs⟩
  rw [wp_ret]; imodintro
  isplitl [HO]; · iexact HO
  isplitl [HGs]; · iexact HGs
  isplitl [HRs]; · iexact HRs
  isplitl [Hout]; · iexact Hout
  isplitl [HB]; · iexact HB
  isplitl [Hx] <;> iassumption

end Points

end Cert.Exchange

end
-- ==== Proof.Region.lean ====
/-
# The pipeline's body

The state of a device between the four grid points, and the body's obligation at each of them.
-/
module

public import proofs.«01_k».proof.Proof.Grid

@[expose] public section

noncomputable section

namespace Cert.Exchange

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a device holds between grid points -/

/-- Before the first point. -/
def phi0 (c : Dev nD) : sProp 𝕄 :=
  iprop(∃ K, records m K ∗ levAts L lv ∗ keep c ∗ arrivals c ∗ bigSep Finset.univ (toSignal (F := F) c) ∗ bigSep Finset.univ (sendToks (F := F) c)
      ∗ bigSep Finset.univ (ySlot m c 0) ∗ ∃ f, xPts (F := F) c f)
/-- The barrier signalled: after the first point. -/
def phi1 (c : Dev nD) : sProp 𝕄 :=
  iprop(∃ K, records m K ∗ levAts L lv ∗ keep c ∗ arrivals c ∗ (∃ f, rPts (F := F) c c f) ∗ bigSep Finset.univ (sendToks (F := F) c)
      ∗ bigSep Finset.univ (ySlot m c 8) ∗ xPts c (xbC m c))
/-- The barrier passed, the slabs below `n` sent: after the second point and after the third. -/
def phiMid (c : Dev nD) (n : ℕ) : sProp 𝕄 :=
  iprop(∃ K, records m K ∗ arrivals c ∗ semVal (barCell c) 0 ∗ split (below c n) (toSend m c n) (sent c) ∗ xPts c (xbC m c))
/-- All sent and all received. -/
def phiEnd (c : Dev nD) : sProp 𝕄 :=
  iprop(semVal (barCell c) 0 ∗ bigSep Finset.univ (gone (F := F) c) ∗ bigSep Finset.univ (recvd (F := F) c) ∗ ∃ f, xPts (F := F) c f)

/-- What a device holds between the points: `n` of them done. -/
def phi (c : Dev nD) (n : ℕ) : sProp 𝕄 :=
  match n with
  | 0 => phi0 m c
  | 1 => phi1 m c
  | 2 => phiMid m c 16
  | 3 => phiMid m c 24
  | _ => phiEnd c

/-- What a device owes between the points. -/
def owedC (c : Dev nD) (n : ℕ) : CellTallies nD τ sig Unit :=
  match n with
  | 0 => owedRecv c nobody + owedBar c nobody
  | 1 => owedRecv c nobody
  | 2 => owedRecv c (below c 16)
  | 3 => owedRecv c (below c 24)
  | _ => 0

/-- The run's data on device `c`: only the result's buffer is pinned, and only at the last point. -/
def rdats (_ : Fin 1) (c : Dev nD) : Pipeline.RDat τ (Elt F) Unit ℕ UU ℕ cfg0 c where
  A w := m ((cfg0.win w).arr.view.loc (c : Thread nD τ))
  after w t := match w with
    | ⟨0, _⟩ => fun _ _ => True
    | ⟨1, _⟩ => fun _ _ => True
    | ⟨2, _⟩ => fun _ X => t.val = 3 → X = outC m c
  Φ t := phi m c t.val
  q _ := fullShare
  owed t := owedC c t.val

omit [FloatOps F] in
theorem owns_out (c : Dev nD) (X : S4096x64.Idx → Elt F .f32) : (owns (c : Thread nD τ) oM fullShare X : sProp 𝕄) ⊢ outPts c X := by
  unfold owns outPts
  simp only [Memref.view_whole, View.read_whole, View.set_whole]
  iintro ⟨%f, %hf, H⟩
  subst hf; iexact H
omit [FloatOps F] in
theorem out_owns (c : Dev nD) (X : S4096x64.Idx → Elt F .f32) : outPts c X ⊢ (owns (c : Thread nD τ) oM fullShare X : sProp 𝕄) := by
  unfold owns outPts
  simp only [Memref.view_whole, View.read_whole, View.set_whole]
  iintro H
  iexists X
  isplitr; · ipureintro; rfl
  iexact H

/-- Owing, whatever has been waited on, as the pipeline states it. -/
theorem owes_in (c : Dev nD) (t : Fin (cfg0.N + 1)) : (rdats m 0 c).owesAt () t ⊢ owesAny (F := F) c (owedC c t.val) := by
  unfold Pipeline.RDat.owesAt Pipeline.owesWithin owesAny
  iintro ⟨%W, -, H⟩
  iexists W; iexact H
theorem owes_out (c : Dev nD) (t : Fin (cfg0.N + 1)) : owesAny (F := F) c (owedC c t.val) ⊢ (rdats m 0 c).owesAt () t := by
  unfold Pipeline.RDat.owesAt Pipeline.owesWithin owesAny
  iintro ⟨%W, H⟩
  iexists W
  isplitr; · ipureintro; exact fun _ _ => Or.inl trivial
  iexact H

/-- What the second window's buffer holds at a point. -/
theorem found_w (c : Dev nD) (t : Fin cfg0.N) {Y : (cfg0.win 1).block.Idx → Elt F (cfg0.win 1).elt} (h : (rdats m 0 c).Finds 1 t Y) : Y = wC m c t := by
  obtain ⟨d, hd⟩ := ((rdats m 0 c).finds_of_fetch (fetch0_1 t) Y).mp h
  exact hd
/-- What the first window's buffer holds at the first point. -/
theorem found_x (c : Dev nD) {Y : (cfg0.win 0).block.Idx → Elt F (cfg0.win 0).elt} (h : (rdats m 0 c).Finds 0 t0_0 Y) : k0_pay7 Y = xbC m c := by
  obtain ⟨d, hd⟩ := ((rdats m 0 c).finds_of_fetch ((fetch0_0 t0_0).mpr rfl) Y).mp h
  exact congrArg (k0_pay7 (F := F)) hd

theorem coord_eq (t : Fin cfg0.N) : (grid0.coords t 0).val = t.val := by
  rcases fin_N0 t with rfl | rfl | rfl | rfl <;> rfl

/-- The windows' buffers handed back. -/
theorem hand_back (c : Dev nD) (t : Fin cfg0.N) {Y : (w : Fin cfg0.W) → (cfg0.win w).block.Idx → Elt F (cfg0.win w).elt}
    {X : (cfg0.win 2).block.Idx → Elt F (cfg0.win 2).elt} (hX : t.val = 3 → X = outC m c) :
    iprop(owns (c : Thread nD τ) (st0_0 t) fullShare (Y 0) ∗ owns (c : Thread nD τ) (st0_1 t) fullShare (Y 1) ∗ owns (c : Thread nD τ) (st0_2 t) fullShare X)
      ⊢ (bigSep Finset.univ fun w => iprop(∃ X, ⌜(rdats m 0 c).after w t (Y w) X⌝ ∗ owns (c : Thread nD τ) ((cfg0.win w).stage (cfg0.slots t w)) fullShare X) : sProp 𝕄) := by
  rw [show (bigSep Finset.univ fun w => iprop(∃ X, ⌜(rdats m 0 c).after w t (Y w) X⌝ ∗ owns (c : Thread nD τ) ((cfg0.win w).stage (cfg0.slots t w)) fullShare X) : sProp 𝕄)
    = _ from bigSep_W0 _]
  iintro ⟨H0, H1, H2⟩
  isplitl [H0]
  · iexists (Y 0); isplitr; · ipureintro; exact trivial
    iexact H0
  isplitl [H1]
  · iexists (Y 1); isplitr; · ipureintro; exact trivial
    iexact H1
  iexists X; isplitr; · ipureintro; exact hX
  iexact H2

/-- The body at every grid point, as the pipeline asks for it. -/
theorem body_ok (c : Dev nD) : (rdats (F := F) m 0 c).BodyObligation (defs₀ (F := F)) 𝒱₀ () Set.univ := by
  intro t Y hY
  have hw : Y 1 = wC m c t := found_w m c t (hY 1)
  have hback {X} (hX) := hand_back m c t (Y := Y) (X := X) hX
  rw [show (bigSep Finset.univ fun w => owns (c : Thread nD τ) ((cfg0.win w).stage (cfg0.slots t w)) fullShare (Y w) : sProp 𝕄) = _ from bigSep_W0 _]
  rw [hw] at hback ⊢
  have hc := coord_eq t
  have hin := owes_in m c t.castSucc
  have hout := owes_out m c t.succ
  rcases fin_N0 t with rfl | rfl | rfl | rfl
  · have hp := fun K => wp_point0 m K c (grid0.coords t0_0) (st0_0 t0_0) (hstage0_0 ((cfg0.slots t0_0 0).cast nbuf0_0)) (st0_1 t0_0) (hstage0_1 ((cfg0.slots t0_0 1).cast nbuf0_1)) t0_0 rfl hc (Y 0) (found_x m c (hY 0))
    show iprop(phi0 m c ∗ _) ⊢ wp frame (wpE (defs₀ (F := F)) 𝒱₀ (c : Thread nD τ) none) Set.univ (bodyAt0 t0_0) fun _ => iprop(phi1 m c ∗ _)
    unfold phi0 phi1
    iintro ⟨⟨%K, #HR, Hlev, Hk, Ha, HS, HT, HY, Hx⟩, HO, H0, H1, H2⟩
    ihave HO := hin $$ HO
    iapply (wp_wand _ _ _) $$ [HO HS Hx H0 HY H1]
    · iapply (hp K (iprop(emp)))
      isplitr; · iexact HR
      isplitl [HO]; · iexact HO
      isplitl [HS]; · iexact HS
      isplitl [Hx]; · iexact Hx
      isplitl [H0]; · iexact H0
      isplitr; · iempintro
      isplitl [H1] <;> iassumption
    iintro %_ ⟨⟨HO, Hr, Hx, H0, -, H1⟩, HY⟩
    isplitr [HO H0 H1 H2]
    · iexists K
      isplitr; · iexact HR
      isplitl [Hlev]; · iexact Hlev
      isplitl [Hk]; · iexact Hk
      isplitl [Ha]; · iexact Ha
      isplitl [Hr]; · iexact Hr
      isplitl [HT]; · iexact HT
      isplitl [HY] <;> iassumption
    isplitl [HO]; · iapply hout; iexact HO
    iapply (hback (X := Y 2) (fun h => absurd h (by decide)))
    isplitl [H0]; · iexact H0
    isplitl [H1] <;> iassumption
  · have hp := fun K => wp_point1 m K c (grid0.coords t0_1) (st0_0 t0_1) (hstage0_0 ((cfg0.slots t0_1 0).cast nbuf0_0)) (st0_1 t0_1) (hstage0_1 ((cfg0.slots t0_1 1).cast nbuf0_1)) t0_1 rfl hc
    show iprop(phi1 m c ∗ _) ⊢ wp frame (wpE (defs₀ (F := F)) 𝒱₀ (c : Thread nD τ) none) Set.univ (bodyAt0 t0_1) fun _ => iprop(phiMid m c 16 ∗ _)
    unfold phi1 phiMid
    iintro ⟨⟨%K, #HR, Hlev, Hk, Ha, Hr, HT, HY, Hx⟩, HO, H0, H1, H2⟩
    ihave HO := hin $$ HO
    iapply (wp_wand _ _ _) $$ [HO Hlev Hk Hr HT HY Hx H1]
    · iapply (hp K (iprop(emp)))
      isplitr [Hx H1 HY]
      · isplitr; · iexact HR
        isplitl [Hlev]; · iexact Hlev
        isplitl [HO]; · iexact HO
        isplitl [Hk]; · iexact Hk
        isplitl [Hr]; · iexact Hr
        isplitl [HT]; · iexact HT
        iempintro
      isplitl [Hx]; · iexact Hx
      isplitl [H1] <;> iassumption
    unfold sentBelow
    iintro %_ ⟨⟨HO, HY⟩, Hb, -, Hx, H1⟩
    isplitr [HO H0 H1 H2]
    · iexists K
      isplitr; · iexact HR
      isplitl [Ha]; · iexact Ha
      isplitl [Hb]; · iexact Hb
      isplitl [HY] <;> iassumption
    isplitl [HO]; · iapply hout; iexact HO
    iapply (hback (X := Y 2) (fun h => absurd h (by decide)))
    isplitl [H0]; · iexact H0
    isplitl [H1] <;> iassumption
  · have hp := fun K => wp_point2 m K c (grid0.coords t0_2) (st0_0 t0_2) (hstage0_0 ((cfg0.slots t0_2 0).cast nbuf0_0)) (st0_1 t0_2) (hstage0_1 ((cfg0.slots t0_2 1).cast nbuf0_1)) t0_2 rfl hc
    show iprop(phiMid m c 16 ∗ _) ⊢ wp frame (wpE (defs₀ (F := F)) 𝒱₀ (c : Thread nD τ) none) Set.univ (bodyAt0 t0_2) fun _ => iprop(phiMid m c 24 ∗ _)
    unfold phiMid
    iintro ⟨⟨%K, #HR, Ha, Hb, HY, Hx⟩, HO, H0, H1, H2⟩
    ihave HO := hin $$ HO
    iapply (wp_wand _ _ _) $$ [HO HY Hx H1]
    · iapply (hp K (iprop(emp)))
      isplitl [HO]
      · isplitr; · iexact HR
        isplitl [HO]; · iexact HO
        iempintro
      isplitl [Hx]; · iexact Hx
      isplitl [H1] <;> iassumption
    unfold sentBelow
    iintro %_ ⟨⟨HO, HY⟩, -, Hx, H1⟩
    isplitr [HO H0 H1 H2]
    · iexists K
      isplitr; · iexact HR
      isplitl [Ha]; · iexact Ha
      isplitl [Hb]; · iexact Hb
      isplitl [HY] <;> iassumption
    isplitl [HO]; · iapply hout; iexact HO
    iapply (hback (X := Y 2) (fun h => absurd h (by decide)))
    isplitl [H0]; · iexact H0
    isplitl [H1] <;> iassumption
  · have hp := fun K => wp_point3 m K c (grid0.coords t0_3) (st0_0 t0_3) (hstage0_0 ((cfg0.slots t0_3 0).cast nbuf0_0)) (st0_1 t0_3) (hstage0_1 ((cfg0.slots t0_3 1).cast nbuf0_1)) t0_3 rfl hc
    show iprop(phiMid m c 24 ∗ _) ⊢ wp frame (wpE (defs₀ (F := F)) 𝒱₀ (c : Thread nD τ) none) Set.univ (bodyAt0 t0_3) fun _ => iprop(phiEnd c ∗ _)
    unfold phiMid phiEnd
    iintro ⟨⟨%K, #HR, Ha, Hb, HY, Hx⟩, HO, H0, H1, H2⟩
    ihave HO := hin $$ HO
    ihave H2 := (show owns (c : Thread nD τ) ((cfg0.win 2).stage (cfg0.slots t0_3 2)) fullShare (Y 2) ⊢ outPts c (Y 2) from owns_out c (Y 2)) $$ H2
    iapply (wp_wand _ _ _) $$ [HO HY Hx H1 H2 Ha]
    · iapply (hp K (iprop(emp)) (Y 2))
      isplitl [HO H2 Ha]
      · isplitr; · iexact HR
        isplitl [HO]; · iexact HO
        isplitr; · iexact HR
        isplitl [Ha]; · iexact Ha
        isplitl [H2]; · iexact H2
        iempintro
      isplitl [Hx]; · iexact Hx
      isplitl [H1] <;> iassumption
    iintro %_ ⟨HO, Hg, Hr, H2, -, Hx, H1⟩
    isplitr [HO H0 H1 H2]
    · isplitl [Hb]; · iexact Hb
      isplitl [Hg]; · iexact Hg
      isplitl [Hr]; · iexact Hr
      iexists _; iexact Hx
    isplitl [HO]; · iapply hout; iexact HO
    iapply (hback (X := outC m c) (fun _ => rfl))
    isplitl [H0]; · iexact H0
    isplitl [H1]; · iexact H1
    iapply (out_owns c (outC m c)); iexact H2

end Cert.Exchange

end
-- ==== Proof.Deal.lean ====
/-
# Dealing the cells and the tokens

From the semaphores at zero every device's cells get their invariants, all at once, and every duty token goes to the
device that discharges the duty.

-/
module

public import proofs.«01_k».proof.Proof.Region

@[expose] public section

noncomputable section

namespace Cert.Exchange

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The kernel's own semaphores -/

/-- The kernel's own scoped semaphores: the send ones and the receive ones. -/
def osem : Dev nD ⊕ Dev nD → SemLoc sig := fun k => csem (.inr k)

/-- Different cells of a device have different semaphores. -/
theorem csem_injective : Function.Injective csem := by
  have hb (k : Dev nD ⊕ Dev nD) : csem (.inr k) ≠ .reg barS := by rcases k with j | s <;> exact fun h => by cases h
  rintro (⟨⟩ | k) (⟨⟩ | k') h
  · rfl
  · exact absurd h.symm (hb k')
  · exact absurd h (hb k)
  · have hv (a b : DmaSem sig) (h : (SemLoc.dma a : SemLoc sig) = .dma b) : a.val = b.val := by cases h; rfl
    rcases k with j | s <;> rcases k' with j' | s'
    · have := hv _ _ h
      have e : 4 + j.val = 4 + j'.val := this
      rw [show j = j' from Fin.ext (by omega)]
    · have := hv _ _ h
      have e : 4 + j.val = 36 + s'.val := this
      have := j.isLt; exact absurd e (by have : j.val < 32 := j.isLt; omega)
    · have := hv _ _ h
      have e : 36 + s.val = 4 + j'.val := this
      exact absurd e (by have : j'.val < 32 := j'.isLt; omega)
    · have := hv _ _ h
      have e : 36 + s.val = 36 + s'.val := this
      rw [show s = s' from Fin.ext (by omega)]
/-- Different cells are different. -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
/-- The cells of the exchange. -/
def xCells : Finset (GSem nD τ sig) := Finset.univ.map ⟨kcell, kcell_injective⟩

/-- The duty a cell's token stands for: a barrier cell has one for every device, the others one for their peer. -/
def tokOf (x : Dev nD × (Dev nD ⊕ (Dev nD ⊕ Dev nD))) : GSem nD τ sig × ℕ × Dev nD :=
  match x.2 with
  | .inl d => (barCell x.1, 0, d)
  | .inr (.inl j) => (sendCell x.1 j, 0, j)
  | .inr (.inr s) => (recvCell x.1 s, 0, s)
/-- Different duties have different tokens. -/
theorem tokOf_injective : Function.Injective tokOf := by
  rintro ⟨c, k⟩ ⟨c', k'⟩ h
  have hd : (tokOf (c, k)).2.2 = (tokOf (c', k')).2.2 := congrArg (fun y => y.2.2) h
  have hk (c : Dev nD) (k : Dev nD ⊕ (Dev nD ⊕ Dev nD)) : (tokOf (c, k)).1 = kcell (c, k.map (fun _ => ()) id) := by
    rcases k with d | j | s <;> rfl
  have hg : kcell (c, k.map (fun _ => ()) id) = kcell (c', k'.map (fun _ => ()) id) := by rw [← hk, ← hk, h]
  have e := kcell_injective hg
  have e1 : c = c' := congrArg Prod.fst e
  have e2 : k.map (fun _ => ()) id = k'.map (fun _ => ()) id := congrArg Prod.snd e
  subst e1
  rcases k with d | k <;> rcases k' with d' | k'
  · have : d = d' := hd
    rw [this]
  · cases e2
  · cases e2
  · have : k = k' := Sum.inr_injective e2
    rw [this]
/-- The tokens of the exchange. -/
def xToks : Finset (GSem nD τ sig × ℕ × Dev nD) := Finset.univ.map ⟨tokOf, tokOf_injective⟩

/-- The launch's own ghost state: the pipeline's rounds and the exchange's, none begun. -/
def u₀ : UU := (initOf (Pipeline.cells cfgs cellOf_inj) (Pipeline.launchToks cfgs cellOf_inj), initOf xCells xToks)

/-! ## Minting -/

/-- The tokens of device `c`'s own cells. -/
def minted (c : Dev nD) : sProp 𝕄 :=
  iprop(bigSep Finset.univ (fun d => dutyTok ER (barCell c) 0 d) ∗ bigSep Finset.univ (fun j => dutyTok ER (sendCell c j) 0 j)
    ∗ bigSep Finset.univ fun s => dutyTok ER (recvCell c s) 0 s)
/-- Device `c`'s cells, none begun. -/
def fresh (c : Dev nD) : sProp 𝕄 :=
  iprop((bigSep Finset.univ fun k : CK => roundState ER (sched m) (kcell (c, k)) 0) ∗ (bigSep Finset.univ fun k : CK => atPos ER (kcell (c, k)) 0 ∅ 0)
    ∗ (bigSep Finset.univ fun k : CK => reached ER (kcell (c, k)) 0) ∗ minted c)

/-- The launch's ghost state gives every device its cells and their tokens. -/
theorem mint : BI.own (ER (initOf xCells xToks)) ⊢ (|==> bigSep Finset.univ (fresh m) : sProp 𝕄) := by
  have hX (Φ : GSem nD τ sig → sProp 𝕄) : bigSep xCells Φ = bigSep Finset.univ fun c : Dev nD => bigSep Finset.univ fun k : CK => Φ (kcell (c, k)) := by
    unfold xCells; rw [bigSep_map, bigSep_univ_prod]; rfl
  have hT : bigSep xToks (fun x => (dutyTok ER x.1 x.2.1 x.2.2 : sProp 𝕄)) = bigSep Finset.univ fun c : Dev nD => minted c := by
    unfold xToks; rw [bigSep_map, bigSep_univ_prod]
    refine bigSep_congr fun c _ => ?_
    unfold minted
    rw [bigSep_univ_sum, bigSep_univ_sum]
    rfl
  iintro HX
  imod (Rounds.fund ER (sched m) xCells xToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold fresh
  iapply (both Finset.univ _ _)
  isplitl [Hst']; · iexact Hst'
  iapply (both Finset.univ _ _)
  isplitl [Hat']; · iexact Hat'
  iapply (both Finset.univ _ _)
  isplitl [Hr']; · iexact Hr'
  iexact Htok'

/-! ## The invariants -/

omit [FloatOps F] in
/-- A device's cells: the barrier's, the send ones, the receive ones. -/
theorem over_cells (Φ : CK → sProp 𝕄) : bigSep Finset.univ Φ
    = iprop(Φ (.inl ()) ∗ bigSep Finset.univ (fun j => Φ (.inr (.inl j))) ∗ bigSep Finset.univ fun s => Φ (.inr (.inr s))) := by
  rw [bigSep_univ_sum, bigSep_univ_sum (fun k => Φ (.inr k)), Finset.univ_unique, bigSep_singleton]
  rfl

omit [FloatOps F] in
/-- The kernel's own semaphores. -/
theorem own_sems (c : Dev nD) : (Pipeline.ownSems0 (Ix := Unit) (Name := ℕ) (U := UU) (Lvl := ℕ) (Val := Elt F) (τ := τ) osem c : sProp 𝕄)
    = iprop(bigSep Finset.univ (fun j => semVal (sendCell c j) 0) ∗ bigSep Finset.univ fun s => semVal (recvCell c s) 0) := by
  unfold Pipeline.ownSems0
  rw [bigSep_univ_sum]
  rfl
omit [FloatOps F] in
/-- The barrier's semaphore is the one the program does not allocate. -/
theorem bar_sems (c : Dev nD) : (unscopedSems0 c : sProp 𝕄) = semVal (barCell c) 0 := by
  unfold unscopedSems0; rw [bigSep_eq_bigSepL_of_eq [SemLoc.reg barS] (by decide) (by decide)]; rfl

/-- A device's cells get their invariants. -/
theorem open_cells (c : Dev nD) :
    iprop(Pipeline.ownSems0 (Ix := Unit) (Name := ℕ) (U := UU) (Lvl := ℕ) (Val := Elt F) (τ := τ) osem c ∗ unscopedSems0 c ∗ fresh m c)
      ⊢ |={Set.univ}=> iprop((bigSep Finset.univ fun k : CK => iprop(∃ κ : ℕ, cellInv ER (sched m) κ (kcell (c, k))))
          ∗ (bigSep Finset.univ fun k : CK => reached ER (kcell (c, k)) 0) ∗ (bigSep Finset.univ fun k : CK => atPos ER (kcell (c, k)) 0 ∅ 0) ∗ minted c) := by
  have hinv : (bigSep Finset.univ fun k : CK => iprop(semVal (kcell (c, k)) 0 ∗ roundState ER (sched m) (kcell (c, k)) 0))
      ⊢ (|={Set.univ}=> bigSep Finset.univ fun k : CK => iprop(∃ κ : ℕ, cellInv ER (sched m) κ (kcell (c, k))) : sProp 𝕄) :=
    (bigSep_mono fun k _ => (Rounds.body_intro ER (sched m) (kcell (c, k))).trans inv_alloc).trans (bigSep_fupd _ _)
  rw [own_sems, bar_sems]
  unfold fresh
  iintro ⟨⟨HS, HV⟩, HB, Hst, Hat, Hr, Htok⟩
  ihave Hv := (Entails.of_eq (over_cells (F := F) fun k => semVal (kcell (c, k)) 0).symm) $$ [HS HV HB]
  · isplitl [HB]; · iexact HB
    isplitl [HS]; · iexact HS
    iexact HV
  ihave Hb := (both Finset.univ (fun k : CK => semVal (kcell (c, k)) 0) (fun k : CK => roundState ER (sched m) (kcell (c, k)) 0)) $$ [Hv Hst]
  · isplitl [Hv] <;> iassumption
  imod hinv $$ Hb with Hinv
  imodintro
  isplitl [Hinv]; · iexact Hinv
  isplitl [Hr]; · iexact Hr
  isplitl [Hat]; · iexact Hat
  iexact Htok

/-! ## Dealing -/

/-- What device `c` starts with, apart from memory: its own positions and the tokens of the duties it discharges. -/
def dealt (c : Dev nD) : sProp 𝕄 :=
  iprop((bigSep Finset.univ fun k : CK => atPos ER (kcell (c, k)) 0 ∅ 0)
    ∗ bigSep Finset.univ (fun j => dutyTok ER (barCell j) 0 c) ∗ bigSep Finset.univ (sendToks (F := F) c))
/-- The same beside every cell's invariant. -/
def dealtAll (c : Dev nD) : sProp 𝕄 := iprop(∃ K, records m K ∗ dealt (F := F) c)

omit [FloatOps F] in
/-- Every token to the device that discharges its duty. -/
theorem deal_tokens : (bigSep Finset.univ fun c : Dev nD => (minted c : sProp 𝕄))
    ⊢ bigSep Finset.univ fun c : Dev nD => iprop(bigSep Finset.univ (fun j => dutyTok ER (barCell j) 0 c) ∗ bigSep Finset.univ (sendToks (F := F) c) : sProp 𝕄) := by
  have hb := bigSep_univ_comm (M := 𝕄) fun c d : Dev nD => dutyTok ER (barCell c) 0 d
  have hr := bigSep_univ_comm (M := 𝕄) fun c s : Dev nD => dutyTok ER (recvCell c s) 0 s
  unfold minted
  iintro H
  ihave H := (apart Finset.univ _ _) $$ H
  icases H with ⟨H1, H⟩
  ihave H := (apart Finset.univ _ _) $$ H
  icases H with ⟨H2, H3⟩
  ihave H1 := (Entails.of_eq hb) $$ H1
  ihave H3 := (Entails.of_eq hr) $$ H3
  iapply (both Finset.univ _ _)
  isplitl [H1]; · iexact H1
  unfold sendToks
  iapply (show iprop(bigSep Finset.univ (fun c : Dev nD => bigSep Finset.univ fun j : Dev nD => dutyTok ER (sendCell c j) 0 j)
      ∗ bigSep Finset.univ fun c : Dev nD => bigSep Finset.univ fun j : Dev nD => dutyTok ER (recvCell j c) 0 c)
      ⊢ bigSep Finset.univ fun c : Dev nD => bigSep Finset.univ fun j : Dev nD => (iprop(dutyTok ER (sendCell c j) 0 j ∗ dutyTok ER (recvCell j c) 0 c) : sProp 𝕄)
      from (both Finset.univ _ _).trans (bigSep_mono fun c _ => both Finset.univ _ _))
  isplitl [H2] <;> iassumption

/-- Every device's start, all invariants shared. -/
theorem deal :
    (bigSep Finset.univ fun c : Dev nD => iprop((bigSep Finset.univ fun k : CK => iprop(∃ κ : ℕ, cellInv ER (sched m) κ (kcell (c, k))))
          ∗ (bigSep Finset.univ fun k : CK => reached ER (kcell (c, k)) 0) ∗ (bigSep Finset.univ fun k : CK => atPos ER (kcell (c, k)) 0 ∅ 0) ∗ minted c) : sProp 𝕄)
      ⊢ bigSep Finset.univ (dealtAll m) := by
  have hI := Entails.of_eq (bigSep_univ_prod (M := 𝕄) fun ck : Dev nD × CK => iprop(∃ κ : ℕ, cellInv ER (sched m) κ (kcell ck))).symm
  have hR := Entails.of_eq (bigSep_univ_prod (M := 𝕄) fun ck : Dev nD × CK => reached ER (kcell ck) 0).symm
  iintro H
  ihave H := (apart Finset.univ _ _) $$ H
  icases H with ⟨HI, H⟩
  ihave H := (apart Finset.univ _ _) $$ H
  icases H with ⟨HR, H⟩
  ihave H := (apart Finset.univ _ _) $$ H
  icases H with ⟨Hat, Htok⟩
  ihave HI := hI $$ HI
  ihave HR := hR $$ HR
  ihave HK := (BI.bigSep_exists_pi Finset.univ (fun (ck : Dev nD × CK) (κ : ℕ) => (cellInv ER (sched m) κ (kcell ck) : sProp 𝕄))) $$ HI
  icases HK with ⟨%K, HI⟩
  ihave HD := (deal_tokens (F := F)) $$ Htok
  ihave Hrec := (show iprop((bigSep Finset.univ fun ck : Dev nD × CK => cellInv ER (sched m) (K ck) (kcell ck))
    ∗ bigSep Finset.univ fun ck : Dev nD × CK => reached ER (kcell ck) 0) ⊢ bigSep Finset.univ fun _ : Dev nD => records m K
    from BI.bigSep_of_persistent Finset.univ (records m K)) $$ [HI HR]
  · isplitl [HI] <;> iassumption
  have hone (c : Dev nD) : iprop(records m K ∗ dealt (F := F) c) ⊢ dealtAll m c := by
    unfold dealtAll; iintro H; iexists K; iexact H
  iapply (show (bigSep Finset.univ fun c : Dev nD => iprop(records m K ∗ dealt (F := F) c)) ⊢ bigSep Finset.univ (dealtAll m) from bigSep_mono fun c _ => hone c)
  iapply (both Finset.univ _ _)
  isplitl [Hrec]; · iexact Hrec
  unfold dealt
  iapply (both Finset.univ _ _)
  isplitl [Hat]; · iexact Hat
  iexact HD

/-- The step of the launch that looks at all devices together. -/
theorem deal_all : (bigSep Finset.univ fun c => iprop(Pipeline.ownSems0 (Ix := Unit) (Name := ℕ) (U := UU) (Lvl := ℕ) (Val := Elt F) (τ := τ) osem c ∗ unscopedSems0 c ∗ fresh m c) : sProp 𝕄)
    ⊢ |={Set.univ}=> bigSep Finset.univ (dealtAll m) :=
  ((bigSep_mono fun c _ => open_cells m c).trans (bigSep_fupd _ _)).trans (BI.fupd_mono (deal m))

end Cert.Exchange

end
-- ==== Proof.Launch.lean ====
/-
# The run

The launch on all 32 devices: the credits, what each device starts and ends with, and the final state.

-/
module

public import proofs.«01_k».proof.Proof.Deal
public import Idealize.ShloMosaic.Lib.Pipeline.ArrRel
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Launch credits -/

/-- What every device owes at the start. -/
def owed₀ (c : Dev nD) : CellTallies nD τ sig Unit := owedRecv c nobody + owedBar c nobody

theorem bar_eq_iff {a b : Dev nD} : barCell a = barCell b ↔ a = b :=
  ⟨fun h => congrArg (fun g : GSem nD τ sig => g.1.1) h, fun h => h ▸ rfl⟩
theorem bar_ne_recv (a b d : Dev nD) : barCell a ≠ recvCell b d := fun h => by
  have h2 : (SemLoc.reg barS : SemLoc sig) = .dma (recvSem d) := congrArg Prod.snd h
  cases h2
theorem recv_eq_iff {a b s d : Dev nD} : recvCell a s = recvCell b d ↔ a = b ∧ s = d := by
  constructor
  · intro h
    have e := kcell_injective (show kcell (a, .inr (.inr s)) = kcell (b, .inr (.inr d)) from h)
    exact ⟨congrArg Prod.fst e, Sum.inr_injective (Sum.inr_injective (congrArg Prod.snd e))⟩
  · rintro ⟨rfl, rfl⟩; rfl

/-- A sum of tallies at one cell. -/
theorem owing_at (g : Dev nD → CellTallies nD τ sig Unit) (x : GSem nD τ sig) : owing nobody g x () = ∑ j, g j x () := by
  unfold owing
  rw [Finset.sum_apply, Finsupp.finset_sum_apply]
  exact Finset.sum_congr rfl fun j _ => by rw [nobody_eq, if_neg Bool.false_ne_true]

/-- Every device owes every other device's barrier one signal. -/
theorem owed_bar (d c : Dev nD) : owed₀ d (barCell c) () = if c = d then 0 else 1 := by
  unfold owed₀ owedRecv owedBar
  rw [Pi.add_apply, Finsupp.add_apply, owing_at, owing_at]
  rw [Finset.sum_eq_zero, Nat.zero_add, Finset.sum_eq_single c]
  · by_cases h : c = d
    · rw [if_pos h, if_pos h]; rfl
    · rw [if_neg h, if_neg h, tallyAt_apply, if_pos ⟨rfl, rfl⟩]
  · intro j _ hj
    split
    · rfl
    · rw [tallyAt_apply, if_neg fun h => hj (bar_eq_iff.mp h.1).symm]
  · intro h; exact absurd (Finset.mem_univ _) h
  · intro j _
    split
    · rfl
    · rw [tallyAt_apply, if_neg fun h => bar_ne_recv _ _ _ h.1]
/-- Only device `s` owes the arrival of its slot on device `c`. -/
theorem owed_recv (d c s : Dev nD) (hs : s ≠ c) : owed₀ d (recvCell c s) () = if d = s then N else 0 := by
  unfold owed₀ owedRecv owedBar
  rw [Pi.add_apply, Finsupp.add_apply, owing_at, owing_at]
  rw [Finset.sum_eq_single c, Finset.sum_eq_zero, Nat.add_zero]
  · by_cases h : d = s
    · subst h
      rw [if_neg hs.symm, if_pos rfl, tallyAt_apply, if_pos ⟨rfl, rfl⟩]
    · rw [if_neg h]
      split
      · rfl
      · rw [tallyAt_apply, if_neg fun h' => h (recv_eq_iff.mp h'.1).2.symm]
  · intro j _
    split
    · rfl
    · rw [tallyAt_apply, if_neg fun h => bar_ne_recv _ _ _ h.1.symm]
  · intro j _ hj
    split
    · rfl
    · rw [tallyAt_apply, if_neg fun h => hj (recv_eq_iff.mp h.1).1.symm]
  · intro h; exact absurd (Finset.mem_univ _) h

/-- A barrier's credit: 31 signals. -/
theorem credit_bar (c : Dev nD) :
    tallyOn (barCell c) (launchCredit (Pipeline.owing owed₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c,
    ← Finset.add_sum_erase _ _ (Finset.mem_univ c), if_pos rfl, Nat.zero_add,
    Finset.sum_congr rfl fun d hd => if_neg (Finset.ne_of_mem_erase hd).symm, Finset.sum_const, Finset.card_erase_of_mem (Finset.mem_univ _),
    Finset.card_univ, Fintype.card_fin, smul_eq_mul]; rfl
/-- A receive cell's credit: one slot. -/
theorem credit_recv (c s : Dev nD) (hs : s ≠ c) :
    tallyOn (recvCell c s) (launchCredit (Pipeline.owing owed₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s hs, Finset.sum_ite_eq' Finset.univ s fun _ => N,
    if_pos (Finset.mem_univ _)]

omit [FloatOps F] in
/-- The credits a device starts with. -/
theorem credits (c : Dev nD) : (Pipeline.launchCred owed₀ c : sProp 𝕄)
    ⊢ iprop(cred (tallyAt (barCell c) () 31) ∗ bigSep (Finset.univ.erase c) fun s => cred (tallyAt (recvCell c s) () N)) := by
  have hinj : Function.Injective fun s : Dev nD => (SemLoc.dma (recvSem s) : SemLoc sig) :=
    fun a b h => Sum.inr_injective (Sum.inr_injective (csem_injective (show csem (.inr (.inr a)) = csem (.inr (.inr b)) from h)))
  unfold Pipeline.launchCred
  rw [bigSep_univ_at _ (SemLoc.reg barS), credit_bar]
  refine sep_mono_right ?_
  rw [show (bigSep (Finset.univ.erase c) fun s => cred (tallyAt (recvCell c s) () N) : sProp 𝕄)
    = bigSep ((Finset.univ.erase c).map ⟨_, hinj⟩) fun sm => cred (tallyOn ((c.tc : Thread nD τ), sm) (launchCredit (Pipeline.owing owed₀) 0 ((c.tc : Thread nD τ), sm))) from by
      rw [bigSep_map]
      exact bigSep_congr fun s hs => by rw [← credit_recv c s (Finset.ne_of_mem_erase hs)]; rfl]
  refine bigSep_subset fun sm h => ?_
  obtain ⟨s, _, rfl⟩ := Finset.mem_map.mp h
  exact Finset.mem_erase.mpr ⟨fun h' => bar_ne_recv c c s (congrArg (Prod.mk (c : Thread nD τ)) h'.symm), Finset.mem_univ _⟩

/-! ## Buffers by slots -/

/-- The send buffer at the start. -/
theorem send_slots (c : Dev nD) : iprop(∃ f, ((c : Thread nD τ).loc cc0_scratch1) ↦{fullShare} f) ⊢ bigSep Finset.univ (ySlot (F := F) m c 0) := by
  iintro ⟨%f, H⟩
  ihave H := (Entails.of_eq (Ring.pointsTo_blocks (ℓ := (c : Thread nD τ).loc cc0_scratch1) slotSet (fun i j h => slotSet_disjoint h) slotSet_cover f)) $$ H
  have hone (j : Dev nD) : (((c : Thread nD τ).loc cc0_scratch1) ↦[slotSet j]{fullShare} f : sProp 𝕄) ⊢ ySlot (F := F) m c 0 j := by
    unfold ySlot
    rw [if_neg (Nat.not_lt_zero _)]
    unfold yPts
    iintro H; iexists f; iexact H
  iapply (show (bigSep Finset.univ fun j : Dev nD => _ : sProp 𝕄) ⊢ bigSep Finset.univ fun j : Dev nD => _ from bigSep_mono fun j _ => hone j)
  iexact H
omit [FloatOps F] in
/-- The receive buffer at the start. -/
theorem recv_slots (c : Dev nD) : iprop(∃ f, ((c : Thread nD τ).loc cc0_scratch2) ↦{fullShare} f) ⊢ (bigSep Finset.univ fun s => iprop(∃ f, rPts (F := F) c s f) : sProp 𝕄) := by
  iintro ⟨%f, H⟩
  ihave H := (Entails.of_eq (Ring.pointsTo_blocks (ℓ := (c : Thread nD τ).loc cc0_scratch2) slotSet (fun i j h => slotSet_disjoint h) slotSet_cover f)) $$ H
  have hone (j : Dev nD) : (((c : Thread nD τ).loc cc0_scratch2) ↦[slotSet j]{fullShare} f : sProp 𝕄) ⊢ iprop(∃ f, rPts (F := F) c j f) := by
    unfold rPts
    iintro H; iexists f; iexact H
  iapply (show (bigSep Finset.univ fun j : Dev nD => _ : sProp 𝕄) ⊢ bigSep Finset.univ fun j : Dev nD => _ from bigSep_mono fun j _ => hone j)
  iexact H
include m in
/-- The send buffer at the end. -/
theorem send_whole (c : Dev nD) : (bigSep Finset.univ fun j => iprop(∃ f, yPts (F := F) c j f) : sProp 𝕄) ⊢ iprop(∃ f, ((c : Thread nD τ).loc cc0_scratch1) ↦{fullShare} f) :=
  Ring.pointsTo_blocks_join_exists (ℓ := (c : Thread nD τ).loc cc0_scratch1) slotSet (fun i j h => slotSet_disjoint h) slotSet_cover (yC m c)
include m in
/-- The receive buffer at the end. -/
theorem recv_whole (c : Dev nD) : (bigSep Finset.univ fun j => iprop(∃ f, rPts (F := F) c j f) : sProp 𝕄) ⊢ iprop(∃ f, ((c : Thread nD τ).loc cc0_scratch2) ↦{fullShare} f) :=
  Ring.pointsTo_blocks_join_exists (ℓ := (c : Thread nD τ).loc cc0_scratch2) slotSet (fun i j h => slotSet_disjoint h) slotSet_cover (yC m c)

/-! ## Start and end -/

/-- What a device starts with beside its scratch buffers. -/
def start (c : Dev nD) : sProp 𝕄 :=
  iprop(levAts L lv ∗ dealtAll m c ∗ cred (tallyAt (barCell c) () 31) ∗ bigSep (Finset.univ.erase c) fun s => cred (tallyAt (recvCell c s) () N))

variable (ρ : Dev nD → PrngReg)

theorem to_start (c : Dev nD) :
    iprop(Pipeline.unscopedRestP Pipeline.Prefetch.none cfg0.spec c (fun b => m ((c : Thread nD τ).loc b)) ∗ levAts L lv
        ∗ Pipeline.launchCred owed₀ c ∗ prngReg c (ρ c) ∗ dealtAll m c)
      ⊢ |={Set.univ}=> iprop(start m c ∗ emp) := by
  iintro ⟨-, Hlev, Hcr, -, HG⟩
  ihave Hc := (credits (F := F) c) $$ Hcr
  icases Hc with ⟨H1, HN⟩
  imodintro
  unfold start
  isplitl
  · isplitl [Hlev]; · iexact Hlev
    isplitl [HG]; · iexact HG
    isplitl [H1]; · iexact H1
    iexact HN
  · iempintro

theorem to_phi (c : Dev nD) :
    iprop(start m c ∗ Pipeline.prefHeld Pipeline.Prefetch.none c (fun _ => fullShare.right) (fun k => k.elim0) ∗ Pipeline.scopedRest cfg0.spec c)
      ⊢ (rdats m 0 c).Φ 0 := by
  rw [show (rdats m 0 c).Φ 0 = phi0 m c from rfl, scopedRest0_eq]
  unfold start phi0 dealtAll dealt keep arrivals
  iintro ⟨⟨Hlev, ⟨%K, HR, Hat, Hbt, HT⟩, H1, HN⟩, -, Hx, Hy, Hr⟩
  ihave Hat := (Entails.of_eq (over_cells (F := F) fun k => atPos ER (kcell (c, k)) 0 ∅ 0)) $$ Hat
  icases Hat with ⟨HaB, HaS, HaV⟩
  ihave Hy := (send_slots m c) $$ Hy
  ihave Hr := (recv_slots (F := F) c) $$ Hr
  iexists K
  isplitl [HR]; · iexact HR
  isplitl [Hlev]; · iexact Hlev
  isplitl [HaB H1]
  · isplitl [HaB]; · iexact HaB
    iexact H1
  isplitl [HaS HaV HN]
  · isplitl [HaS]; · iexact HaS
    isplitl [HaV]; · iexact HaV
    iexact HN
  isplitl [Hr Hbt]
  · unfold toSignal
    iapply (both Finset.univ _ _)
    isplitl [Hr]; · iexact Hr
    iexact Hbt
  isplitl [HT]; · iexact HT
  isplitl [Hy]; · iexact Hy
  unfold xPts
  iexact Hx

theorem from_phi (c : Dev nD) :
    (rdats m 0 c).Φ (Fin.last cfg0.N) ⊢ iprop(unscopedSems0 c ∗ Pipeline.ownSems0 osem c ∗ Pipeline.scopedRest cfg0.spec c) := by
  rw [show (rdats m 0 c).Φ (Fin.last cfg0.N) = phiEnd c from rfl, scopedRest0_eq, own_sems, bar_sems]
  unfold phiEnd gone recvd
  iintro ⟨HB, HY, HV, Hx⟩
  ihave HY := (apart Finset.univ _ _) $$ HY
  icases HY with ⟨Hy, HzS⟩
  ihave HV := (apart Finset.univ _ _) $$ HV
  icases HV with ⟨Hr, HzV⟩
  ihave Hy := (send_whole m c) $$ Hy
  ihave Hr := (recv_whole m c) $$ Hr
  isplitl [HB]; · iexact HB
  isplitl [HzS HzV]
  · isplitl [HzS]; · iexact HzS
    iexact HzV
  unfold xPts
  isplitl [Hx]; · iexact Hx
  isplitl [Hy]; · iexact Hy
  iexact Hr

/-- What is owed between points, as arrivals and signals of two families of devices. -/
theorem owed_form (c : Dev nD) (n : ℕ) : ∃ S S', owedC c n = owedRecv c S' + owedBar c S := by
  have hb : owedBar c (upto c 31) = 0 := owing_done fun j hj => absurd ((upto_all c j).symm.trans hj) Bool.noConfusion
  have hr : owedRecv c (upto c 31) = 0 := owing_done fun j hj => absurd ((upto_all c j).symm.trans hj) Bool.noConfusion
  match n with
  | 0 => exact ⟨nobody, nobody, rfl⟩
  | 1 => exact ⟨upto c 31, nobody, by rw [hb, add_zero]; rfl⟩
  | 2 => exact ⟨upto c 31, below c 16, by rw [hb, add_zero]; rfl⟩
  | 3 => exact ⟨upto c 31, below c 24, by rw [hb, add_zero]; rfl⟩
  | n + 4 => exact ⟨upto c 31, upto c 31, by rw [hb, hr, add_zero]; rfl⟩

/-- The staging's semaphores are the first four. -/
theorem staging_lt (w : Fin cfg0.W) (s : Fin (cfg0.win w).nbuf) : ((cfg0.win w).sem s).val < 4 := by
  fin_cases w <;> fin_cases s <;> decide

/-- What is owed between points never blocks the staging. -/
theorem staging_waits (c : Dev nD) : (levAts L lv : sProp 𝕄) ⊢ Pipeline.RDat.cellsWaits cfgs (rdats (F := F) m) () 0 c :=
  Pipeline.RDat.cellsWaits_intro cfgs (rdats m) () 0 c fun w s t => by
    obtain ⟨S, S', h⟩ := owed_form c t.val
    rw [show (rdats (F := F) m 0 c).owed t = owedRecv c S' + owedBar c S from h]
    exact mayWait_stage c _ (staging_lt w s) S S'

/-- The kernel's own semaphores are scoped, distinct, and none of the staging's. -/
theorem own_sem_facts : Pipeline.OwnSemFacts cfg0.spec osem where
  isScoped := by decide
  inj := fun a b h => Sum.inr_injective (csem_injective h)
  disj := by
    have hv (a b : DmaSem sig) (h : (SemLoc.dma a : SemLoc sig) = .dma b) : a.val = b.val := by cases h; rfl
    rintro (j | j) w t h
    · have e : 4 + j.val = ((cfg0.win w).sem t).val := hv _ _ h
      have := staging_lt w t
      omega
    · have e : 36 + j.val = ((cfg0.win w).sem t).val := hv _ _ h
      have := staging_lt w t
      omega

theorem share_whole (c : Dev nD) (w : Fin cfg0.W) : (rdats (F := F) m 0 c).share w = fullShare := by
  unfold Pipeline.RDat.share; split <;> rfl

/-! ## The final state -/

/-- The result's array is written once, whole, at the last point. -/
theorem result_whole : (cfg0.win 2).WholeAt t0_3 := by decide +kernel

/-- The final memory: the result computed, the arguments kept. -/
def Ends (r : PUnit × MemSt nD τ sig (Elt F)) : Prop :=
  (∀ c : Dev nD, r.2.mem ((c : Thread nD τ).loc main_v1) = outC m c ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0

/-- What the run's data say of the result's array. -/
theorem result_end (c : Dev nD) {G : Buf (Elt F) ((cfg0.win 2).arr.view.loc (c : Thread nD τ))} (h : (rdats (F := F) m 0 c).ArrAt 2 cfg0.N G) : G = outC m c := by
  obtain ⟨X, ⟨Y, _, hX⟩, hG⟩ := Pipeline.RDat.ArrAt.emb_eq_of_wholeAt h result_whole
  have hX : X = outC m c := hX rfl
  subst hX
  funext j
  exact hG j

/-- What the run's data say of an argument's array. -/
theorem kept (c : Dev nD) (w : Fin cfg0.W) (hw : (cfg0.win w).isOut = false) {G : Buf (Elt F) ((cfg0.win w).arr.view.loc (c : Thread nD τ))}
    (h : (rdats (F := F) m 0 c).ArrAt w cfg0.N G) : G = m ((cfg0.win w).arr.view.loc (c : Thread nD τ)) := by
  rw [Pipeline.RDat.ArrAt_in (rdats (F := F) m 0 c) w hw cfg0.N] at h
  exact h

set_option maxRecDepth 8000 in
/-- For any float values, from any memory with zero counters: every execution of the kernel on the 32 devices
    terminates, and every final state has the computed result, the arguments as they were and every counter at zero. -/
theorem run_main : θ_run defs (onTc (τ := τ) (main (F := F))) ⟨m, fun _ => 0, ρ⟩ (Ends m) :=
  Pipeline.RDat.θ_run_region_owing_glob_pf (fun p => (cfgs p).toPCfg) (fun p => (cfgs p).toPCfg_adm) (rdats m) () cellOf_inj (0 : Fin 1)
    winFacts0.to₀ own_sem_facts (Pipeline.PreFacts.none _) EP defs₀ 𝒱₀ m ρ main
    (hmain := fun _ => rfl)
    (hbody := body_ok m) (hne := fun w => by fin_cases w <;> exact Nat.succ_pos _) (harr := arr_whole0) (hstage := stage_whole0) (hshare := share_whole m)
    (hdistinct := winFacts0.arr_inj)
    (O₀ := owed₀) (howed₀ := fun _ => rfl) (howedN := fun _ => rfl)
    (L := L) (lv := lv) (hL := L_of_ne) (hwaits := staging_waits m)
    (G := fresh m) (G' := dealtAll m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := deal_all m)
    (hA := fun _ _ => rfl) (hpf := fun _ k => k.elim0)
    (X := start m) (Y := fun c => unscopedSems0 c) (Z := fun _ => iprop(emp))
    (hX := to_start m ρ) (hin := to_phi m) (hout := from_phi m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun s h hs => ⟨fun c => ⟨result_end m c ((h c).1 2),
      kept m c 0 rfl ((h c).1 0), kept m c 1 rfl ((h c).1 1)⟩,
      sem_eq_zero hs fun c => (h c).2.2⟩)

end Cert.Exchange

end
-- ==== Proof.Value.lean ====
/-
# What the exchange leaves in the result, entry by entry

At exact arithmetic every entry of the result is gelu of one row of the left matrix times one column of the right. The
steps: a grid point's product at an entry, a slot at an entry (the rows 0–63 of the product lie in its left half, the rows
64–127 in its right half), the blocks of the arguments at an entry, and the result put together from the slots.
-/
module

public import proofs.«01_k».proof.Proof.Protocol
public import Idealize.ShloMosaic.Lib.Pipeline.Value
public import Idealize.ShloMosaic.Lib.MatmulPlain
public import Idealize.ShloMosaic.Lib.ValueIdx

@[expose] public section

noncomputable section

namespace Cert.Exchange

open Cert.KernelIdeal Cert.KernelIdeal.Gen
open Idealize.ShloMosaic Idealize.ShloMosaic.TcCoe
open Idealize.ShloMosaic.ValueIdx
open Idealize.SL.Sem
open scoped BigOperators

/-- The tanh form of gelu on the extended reals, its constants those of the programs. -/
def gelu (y : EReal) : EReal :=
  Ideal.ofBits .f32 0x3F000000#32 * y
    * (Ideal.ofBits .f32 0x3F800000#32
      + Ideal.tanh (Ideal.ofBits .f32 0x3F4C422A#32 * (y + Ideal.ofBits .f32 0x3D372713#32 * (y * y * y))))

/-- Row `r` of the left matrix times column `q` of the right one. -/
def rowCol {n p : ℕ} (A : FVec Ideal ⟨2, ![n, 4096]⟩ .bf16) (B : FVec Ideal ⟨2, ![4096, p]⟩ .bf16) (r : Fin n) (q : Fin p) : EReal :=
  ∑ k : Fin 4096, A (ix2 r k) * B (ix2 k q)

/-- A grid point's product at an entry: gelu of the row times the column. -/
theorem prod_apply (w : Vec Ideal S4096x512 .bf16) (x : Vec Ideal S128x4096 .bf16) (r : Fin 128) (q : Fin 512) :
    k0_pay8 (F := Ideal) w x (ix2 r q) = gelu (rowCol x w r q) := by
  have hy : matmul (F := Ideal) (φ₁ := .bf16) (φ₂ := .bf16) dot_S128x4096_S4096x512_S128x512_1_0_0_1_n_n none x
      (shapeCast S4096x512 w shapeCasts_S4096x512_S4096x512) (constant S128x512 .f32 0x00000000#32) (ix2 r q)
      = rowCol x w r q := by
    rw [shapeCast_self]
    refine (Ideal.matmul_plain_apply (M := 128) (K := 4096) (N := 512) none x w _ r q).trans ?_
    rw [constant_apply, Ideal.ofBits_zero_f32, zero_add, rowCol]
  rw [← hy]
  rfl

/-! ## A slot at an entry -/

/-- Columns `off … off + 63` of a product, its upper rows beside its lower rows, at an entry. -/
theorem halves_apply (off : ℕ) (v : FVec Ideal S128x512 .bf16) (h : S128x512.Slices ![0, off] S128x64)
    (a : Fin 64) (b : Fin 128) (r : Fin 128) (q : Fin 512) (hr : r.val = 64 * (b.val / 64) + a.val) (hq : q.val = off + b.val % 64) :
    shapeCast S1x64x128 (concatenate S64x128 1
        [⟨S64x64, extractStridedSlice S64x64 ![0, 0] (extractStridedSlice S128x64 ![0, off] v h) slices_S128x64_o0_0_S64x64⟩,
          ⟨S64x64, extractStridedSlice S64x64 ![64, 0] (extractStridedSlice S128x64 ![0, off] v h) slices_S128x64_o64_0_S64x64⟩]
        concatenates_S64x64_S64x64_S64x128_d1) shapeCasts_S64x128_S1x64x128 (ix3 0 a b) = v (ix2 r q) := by
  have hb := b.isLt
  have ha := a.isLt
  refine (shapeCast_addUnit_apply ![64, 128] _ _ (ix3 0 a b)).trans ?_
  by_cases hlt : b.val < 64
  · refine (concatenate_pair_apply_left (s₁ := S64x64) (s₂ := S64x64) (1 : Fin S64x128.rank) _ _ _ _ rfl (ix2 a ⟨b.val, hlt⟩) ?_).trans ?_
    · intro c
      match c with
      | ⟨0, _⟩ => rfl
      | ⟨1, _⟩ => rfl
    refine (extractStridedSlice_apply (s := S128x64) (t := S64x64) _ _ _ _ (ix2 ⟨a.val, by omega⟩ ⟨b.val, hlt⟩) ?_).trans ?_
    · intro c
      match c with
      | ⟨0, _⟩ => show a.val = 0 + a.val; omega
      | ⟨1, _⟩ => show b.val = 0 + b.val; omega
    refine extractStridedSlice_apply (s := S128x512) (t := S128x64) _ _ _ _ (ix2 r q) ?_
    intro c
    match c with
    | ⟨0, _⟩ => show r.val = 0 + a.val; omega
    | ⟨1, _⟩ => show q.val = off + b.val; omega
  · refine (concatenate_pair_apply_right (s₁ := S64x64) (s₂ := S64x64) (1 : Fin S64x128.rank) _ _ _ _ rfl rfl (ix2 a ⟨b.val - 64, by omega⟩) ?_ ?_).trans ?_
    · intro c hc
      match c with
      | ⟨0, _⟩ => rfl
      | ⟨1, _⟩ => exact absurd rfl hc
    · show b.val - 64 + 64 = b.val; omega
    refine (extractStridedSlice_apply (s := S128x64) (t := S64x64) _ _ _ _ (ix2 ⟨64 + a.val, by omega⟩ ⟨b.val - 64, by omega⟩) ?_).trans ?_
    · intro c
      match c with
      | ⟨0, _⟩ => show 64 + a.val = 64 + a.val; rfl
      | ⟨1, _⟩ => show b.val - 64 = 0 + (b.val - 64); omega
    refine extractStridedSlice_apply (s := S128x512) (t := S128x64) _ _ _ _ (ix2 r q) ?_
    intro c
    match c with
    | ⟨0, _⟩ => show r.val = 0 + (64 + a.val); omega
    | ⟨1, _⟩ => show q.val = off + (b.val - 64); omega

variable (m : (ℓ : Loc nD τ sig) → Buf (Elt Ideal) ℓ)

/-- The `n`-th slot of a grid point at an entry: columns `64 n …` of the point's product. -/
theorem slab_apply (c : Dev nD) (t : Fin cfg0.N) (n : ℕ) (hn : n < 8) (a : Fin 64) (b : Fin 128) (r : Fin 128) (q : Fin 512)
    (hr : r.val = 64 * (b.val / 64) + a.val) (hq : q.val = 64 * n + b.val % 64) :
    slabC m c t n (ix3 0 a b) = prodC m c t (ix2 r q) := by
  match n, hn, hq with
  | 0, _, hq => exact halves_apply 0 (prodC m c t) slices_S128x512_o0_0_S128x64 a b r q hr hq
  | 1, _, hq => exact halves_apply 64 (prodC m c t) slices_S128x512_o0_64_S128x64 a b r q hr hq
  | 2, _, hq => exact halves_apply 128 (prodC m c t) slices_S128x512_o0_128_S128x64 a b r q hr hq
  | 3, _, hq => exact halves_apply 192 (prodC m c t) slices_S128x512_o0_192_S128x64 a b r q hr hq
  | 4, _, hq => exact halves_apply 256 (prodC m c t) slices_S128x512_o0_256_S128x64 a b r q hr hq
  | 5, _, hq => exact halves_apply 320 (prodC m c t) slices_S128x512_o0_320_S128x64 a b r q hr hq
  | 6, _, hq => exact halves_apply 384 (prodC m c t) slices_S128x512_o0_384_S128x64 a b r q hr hq
  | 7, _, hq => exact halves_apply 448 (prodC m c t) slices_S128x512_o0_448_S128x64 a b r q hr hq

/-- A landed slot's left half, at an entry. -/
theorem left_apply (v : Vec Ideal S1x64x128 .bf16) (a q : Fin 64) (b : Fin 128) (hb : b.val = q.val) :
    k0_pay2 (F := Ideal) v (ix2 a q) = v (ix3 0 a b) := by
  refine (extractStridedSlice_apply (s := S64x128) (t := S64x64) ![0, 0] (k0_pay1 (F := Ideal) v) slices_S64x128_o0_0_S64x64 (ix2 a q) (ix2 a b) ?_).trans ?_
  · intro c
    match c with
    | ⟨0, _⟩ => show a.val = 0 + a.val; omega
    | ⟨1, _⟩ => show b.val = 0 + q.val; omega
  refine (shapeCast_dropUnit_apply ![64, 128] v _ (ix2 a b)).trans (congrArg v ?_)
  funext c
  match c with
  | ⟨0, _⟩ => rfl
  | ⟨1, _⟩ => rfl
  | ⟨2, _⟩ => rfl

/-- A landed slot's right half, at an entry. -/
theorem right_apply (v : Vec Ideal S1x64x128 .bf16) (a q : Fin 64) (b : Fin 128) (hb : b.val = 64 + q.val) :
    k0_pay3 (F := Ideal) v (ix2 a q) = v (ix3 0 a b) := by
  refine (extractStridedSlice_apply (s := S64x128) (t := S64x64) ![0, 64] (k0_pay1 (F := Ideal) v) slices_S64x128_o0_64_S64x64 (ix2 a q) (ix2 a b) ?_).trans ?_
  · intro c
    match c with
    | ⟨0, _⟩ => show a.val = 0 + a.val; omega
    | ⟨1, _⟩ => show b.val = 64 + q.val; omega
  refine (shapeCast_dropUnit_apply ![64, 128] v _ (ix2 a b)).trans (congrArg v ?_)
  funext c
  match c with
  | ⟨0, _⟩ => rfl
  | ⟨1, _⟩ => rfl
  | ⟨2, _⟩ => rfl

/-! ## The arguments at an entry -/

/-- The left block that every grid point multiplies is the device's whole left argument. -/
theorem xb_apply (c : Dev nD) (r : Fin 128) (k : Fin 4096) :
    xbC m c (ix2 r k) = m ((c : Thread nD τ).loc main_arg0) (ix2 r k) := by
  have hi : win0_0.index t0_0 0 = 0 ∧ win0_0.index t0_0 1 = 0 := by decide
  unfold xbC k0_pay7
  dsimp only
  rw [shapeCast_self, shapeCast_self]
  refine (View.read_apply _ _).trans (congrArg (m ((c : Thread nD τ).loc main_arg0)) ?_)
  funext a
  apply Fin.ext
  match a with
  | ⟨0, _⟩ => show win0_0.index t0_0 0 * 128 + 1 * r.val = r.val; rw [hi.1]; omega
  | ⟨1, _⟩ => show win0_0.index t0_0 1 * 4096 + 1 * k.val = k.val; rw [hi.2]; omega

/-- Grid point `t` multiplies columns `512 t …` of the right argument. -/
theorem w_apply (c : Dev nD) (t : Fin cfg0.N) (k : Fin 4096) (q : Fin 512) (p : Fin 2048) (hp : p.val = 512 * t.val + q.val) :
    wC m c t (ix2 k q) = m ((c : Thread nD τ).loc main_arg1) (ix2 k p) := by
  have hi : win0_1.index t 0 = 0 ∧ win0_1.index t 1 = t.val := by
    rcases fin_N0 t with rfl | rfl | rfl | rfl <;> decide
  unfold wC
  refine (View.read_apply _ _).trans (congrArg (m ((c : Thread nD τ).loc main_arg1)) ?_)
  funext a
  apply Fin.ext
  match a with
  | ⟨0, _⟩ => show win0_1.index t 0 * 4096 + 1 * k.val = k.val; rw [hi.1]; omega
  | ⟨1, _⟩ => show win0_1.index t 1 * 512 + 1 * q.val = p.val; rw [hi.2]; omega

/-! ## The result at an entry -/

/-- The slot that device `s` sends to device `c`, at an entry: the columns `64 c …` of gelu of `s`'s rows times `w`. -/
theorem got_apply (c s : Dev nD) (a : Fin 64) (b : Fin 128) (r : Fin 128) (p : Fin 2048)
    (hr : r.val = 64 * (b.val / 64) + a.val) (hp : p.val = 64 * c.val + b.val % 64) :
    gotC m c s (ix3 0 a b) = gelu (rowCol (m ((s : Thread nD τ).loc main_arg0)) (m ((s : Thread nD τ).loc main_arg1)) r p) := by
  have hc : c.val < 32 := c.isLt
  show slabC m s (pointOf c) (c.val % 8) (ix3 0 a b) = _
  rw [slab_apply m s (pointOf c) (c.val % 8) (by omega) a b r ⟨64 * (c.val % 8) + b.val % 64, by omega⟩ hr rfl]
  refine (prod_apply _ _ _ _).trans (congrArg gelu (Finset.sum_congr rfl fun k _ => ?_))
  rw [xb_apply, w_apply m s (pointOf c) k _ p (by show p.val = 512 * (c.val / 8) + (64 * (c.val % 8) + b.val % 64); omega)]

/-- The result on device `c` at an entry: gelu of the row, on the device that holds it, times column `64 c + q` of `w`. -/
theorem out_apply (c : Dev nD) (x : S4096x64.Idx) (r : Fin 128) (p : Fin 2048) (hr : r.val = (x 0).val % 128)
    (hp : p.val = 64 * c.val + (x 1).val) :
    outC m c x = gelu (rowCol (m ((rowDev (x 0) : Thread nD τ).loc main_arg0)) (m ((rowDev (x 0) : Thread nD τ).loc main_arg1)) r p) := by
  have h1 : (x 1).val < 64 := (x 1).isLt
  unfold outC
  split
  · next h =>
    rw [left_apply _ _ _ ⟨(x 1).val, by omega⟩ rfl]
    exact got_apply m c _ _ _ r p (by show r.val = 64 * ((x 1).val / 64) + (x 0).val % 128; omega) (by show p.val = 64 * c.val + (x 1).val % 64; omega)
  · next h =>
    rw [right_apply _ _ _ ⟨64 + (x 1).val, by omega⟩ rfl]
    exact got_apply m c _ _ _ r p (by show r.val = 64 * ((64 + (x 1).val) / 64) + ((x 0).val % 128 - 64); omega) (by show p.val = 64 * c.val + (64 + (x 1).val) % 64; omega)

end Cert.Exchange

end
-- ==== Proof.Equation.lean ====
/-
# The kernel's result is the reference's

The reference's result at an entry is gelu of a row of the left matrix times a column of the right. Device `s` holds rows
`128 s …` of the left matrix and the whole right one, so what the exchange leaves on device `c` is columns `64 c …` of the
reference's result.
-/
module

public import proofs.«01_k».proof.Proof.Value
public import proofs.«01_k».proof.Proof.Gen.ReferenceIdeal.Run
public import Idealize.ShloMosaic.Lib.StackMember
public import Idealize.ShloMosaic.Lib.Layout

@[expose] public section

noncomputable section

namespace Cert.Exchange

open Cert.KernelIdeal
open Idealize.ShloMosaic Idealize.ShloMosaic.TcCoe
open Idealize.ShloMosaic.ValueIdx
open Idealize.SL.Sem

/-- Gelu of the product of two whole matrices, entry by entry. -/
def wholeOut (A : FVec Ideal ⟨2, ![4096, 4096]⟩ .bf16) (B : FVec Ideal ⟨2, ![4096, 2048]⟩ .bf16) : FVec Ideal ⟨2, ![4096, 2048]⟩ .f32 :=
  fun j => gelu (rowCol A B (j 0) (j 1))

/-- The reference terminates with gelu of the product in its result, and keeps its arguments. -/
theorem reference_run (m' : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m', fun _ => 0, ρ⟩ fun r =>
      ∀ c : Dev Cert.ReferenceIdeal.nD,
        r.2.mem ((c.tc : Thread Cert.ReferenceIdeal.nD Cert.ReferenceIdeal.τ).loc Cert.ReferenceIdeal.main_v15)
          = wholeOut (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m' ((c.tc : Thread Cert.ReferenceIdeal.nD Cert.ReferenceIdeal.τ).loc Cert.ReferenceIdeal.main_arg1) := by
  refine (θ_run Cert.ReferenceIdeal.defs _ _).mono (fun _ h c => ⟨(h c).1.trans (funext fun j => ?_), (h c).2⟩)
    (Cert.ReferenceIdeal.Value.run (F := Ideal) m' ρ)
  have hD : Host.dotGeneral (F := Ideal) Cert.ReferenceIdeal.dot_S4096x4096_S4096x2048_S4096x2048_1_0_0_1_n_n none
      (extf .f32 (m' ((c.tc : Thread Cert.ReferenceIdeal.nD Cert.ReferenceIdeal.τ).loc Cert.ReferenceIdeal.main_arg0)) Cert.ReferenceIdeal.Gen.bitsLt_bf16_f32)
      (extf .f32 (m' ((c.tc : Thread Cert.ReferenceIdeal.nD Cert.ReferenceIdeal.τ).loc Cert.ReferenceIdeal.main_arg1)) Cert.ReferenceIdeal.Gen.bitsLt_bf16_f32) j
      = rowCol (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1)) (j 0) (j 1) := by
    rw [eq_ix2 j]
    exact StackMember.dotGeneral_plain_apply (m := 4096) (k := 4096) (n := 2048) none _ _ (j 0) (j 1)
  show _ = gelu _
  rw [← hD]
  rfl

/-- When every device holds its rows of `A` and all of `B`, what the exchange leaves on device `c` is its columns of the
whole result. -/
theorem out_block (m : (ℓ : Loc nD τ sig) → Buf (Elt Ideal) ℓ) (A : FVec Ideal ⟨2, ![4096, 4096]⟩ .bf16) (B : FVec Ideal ⟨2, ![4096, 2048]⟩ .bf16)
    (hA : ∀ c : Dev nD, m ((c : Thread nD τ).loc main_arg0) = Layout.block ⟨2, ![128, 4096]⟩ ⟨2, ![4096, 4096]⟩ 0 32 c A)
    (hB : ∀ c : Dev nD, m ((c : Thread nD τ).loc main_arg1) = B) (c : Dev nD) :
    outC m c = Layout.block ⟨2, ![4096, 64]⟩ ⟨2, ![4096, 2048]⟩ 1 32 c (wholeOut A B) := by
  funext x
  have h0 : (x 0).val < 4096 := (x 0).isLt
  have h1 : (x 1).val < 64 := (x 1).isLt
  have hc : c.val < 32 := c.isLt
  rw [out_apply m c x ⟨(x 0).val % 128, by omega⟩ ⟨64 * c.val + (x 1).val, by omega⟩ rfl rfl, Layout.block_apply, hA, hB]
  refine congrArg gelu (Finset.sum_congr rfl fun k _ => ?_)
  refine congrArg₂ (· * ·) ((Layout.block_apply _ _ _ _).trans (congrArg A ?_)) (congrArg B ?_)
  · funext a
    apply Fin.ext
    match a with
    | ⟨0, _⟩ => show (x 0).val / 128 * 128 + (x 0).val % 128 = (x 0).val; omega
    | ⟨1, _⟩ => rfl
  · funext a
    apply Fin.ext
    match a with
    | ⟨0, _⟩ => rfl
    | ⟨1, _⟩ => show 64 * c.val + (x 1).val = c.val * 64 + (x 1).val; omega

end Cert.Exchange

end
-- ==== Proof.lean ====
/-
# The certificate

The claims about the kernel at floating point, at exact arithmetic, and about the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Equation

@[expose] public section

noncomputable section

namespace Cert.Proof

open Idealize.ShloMosaic Idealize.SL.Sem

/-- For any float values the kernel terminates on all 32 devices, keeps its arguments and leaves every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.Exchange.run_main m ρ)

/-- The kernel as compiled and its idealization have the same body at every grid point: nothing was rewritten between them. -/
theorem bodies_agree {F : FTy → Type} [FloatOps F] : Cert.Kernel.defs₀ (F := F) = Cert.KernelIdeal.defs₀ (F := F) := by
  unfold Cert.Kernel.defs₀ Cert.KernelIdeal.defs₀
  refine congrArg (fun f => Defs.onTc f) ?_
  funext l x
  match l, x with
  | 0, (t, s) => rfl

/-- So the two programs run the same call. -/
theorem calls_agree {F : FTy → Type} [FloatOps F] : Cert.Kernel.defs (F := F) = Cert.KernelIdeal.defs (F := F) :=
  congrArg (Pipeline.defs Cert.KernelIdeal.pcfgs) bodies_agree

/-- At floating point the kernel terminates on all 32 devices, keeps its arguments and leaves every counter at zero. -/
theorem frame_kernel : Cert.quiescent_Kernel := fun m ρ _ => by
  rw [calls_agree]
  exact frame_any (F := Bits) m ρ

/-- So does it at exact arithmetic. -/
theorem frame_ideal : Cert.quiescent_KernelIdeal := fun m ρ _ => frame_any (F := Ideal) m ρ

/-- So does the reference. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

/-- Over the extended reals the 32 devices compute the reference: each ends with its 64 columns of the whole result. -/
theorem value : Cert.algebraic_KernelIdeal_ReferenceIdeal := fun m ρ m' ρ' _ hargs =>
  ⟨Cert.Exchange.wholeOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c =>
        ⟨(h.1 c).1.trans (Cert.Exchange.out_block m _ _ (fun d => (hargs d).1) (fun d => (hargs d).2) c), (h.1 c).2⟩)
      (Cert.Exchange.run_main m ρ),
    (θ_run Cert.ReferenceIdeal.defs _ _).mono (fun _ h => h 0) (Cert.Exchange.reference_run m' ρ')⟩

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
